-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_bounded : Cert.Pre_bounded.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Kernel_KernelIdeal
    ∧ algebraic_KernelIdeal_ReferenceIdeal_pre_bounded (hKernelIdeal := hKernelIdeal) (hReferenceIdeal := hReferenceIdeal) (hPre_bounded := hPre_bounded)
-- ==== Pre_bounded.lean ====
abbrev S4096x16x64 : Shape := ⟨3, ![4096, 16, 64]⟩
abbrev S64 : Shape := ⟨1, ![64]⟩
abbrev S64x64 : Shape := ⟨2, ![64, 64]⟩
abbrev S_ : Shape := ⟨0, ![]⟩

class Facts : Prop where
  bcast_S_S4096x16x64 : S_.BroadcastsInDim S4096x16x64 (![] : Fin 0 → Fin S4096x16x64.rank)
  reducesTo_S4096x16x64_S_d0_1_2 : S4096x16x64.ReducesTo [0, 1, 2] S_
  h_S_ : 0 < S_.numel
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S4096x16x64 .f32) (main_arg1 : FVec F S64 .f32) (main_arg2 : FVec F S64 .f32) (main_arg3 : FVec F S64x64 .f32) : IVec S_ 1 :=
  let main_v0 : FVec F S4096x16x64 .f32 := Host.absf main_arg0
  let main_cst : FVec F S_ .f32 := constant S_ .f32 0x461C4000#32
  let main_v1 : FVec F S4096x16x64 .f32 := broadcastInDim S4096x16x64 ![] bcast_S_S4096x16x64 main_cst
  let main_v2 : IVec S4096x16x64 1 := cmpf .ole main_v0 main_v1
  let main_c : IVec S_ 1 := constantI S_ 1 1#1
  let main_v3 : IVec S_ 1 := (fun x v => Host.reduce IntOp.andi x v reducesTo_S4096x16x64_S_d0_1_2 h_S_) main_v2 main_c
  let main_v4 : FVec F S64 .f32 := Host.absf main_arg1
  let main_cst_0 : FVec F S_ .f32 := constant S_ .f32 0x461C4000#32
  let main_v5 : FVec F S64 .f32 := broadcastInDim S64 ![] bcast_S_S64 main_cst_0
  let main_v6 : IVec S64 1 := cmpf .ole main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64x64 .f32 := Host.absf main_arg3
  let main_cst_2 : FVec F S_ .f32 := constant S_ .f32 0x461C4000#32
  let main_v10 : FVec F S64x64 .f32 := broadcastInDim S64x64 ![] bcast_S_S64x64 main_cst_2
  let main_v11 : IVec S64x64 1 := cmpf .ole main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S4096x16x64 : Shape := ⟨3, ![4096, 16, 64]⟩
abbrev S64 : Shape := ⟨1, ![64]⟩
abbrev S64x64 : Shape := ⟨2, ![64, 64]⟩
abbrev S1x64 : Shape := ⟨2, ![1, 64]⟩
abbrev S1x16 : Shape := ⟨2, ![1, 16]⟩
abbrev S512x16x64 : Shape := ⟨3, ![512, 16, 64]⟩
abbrev S16x64 : Shape := ⟨2, ![16, 64]⟩
abbrev S16x1 : Shape := ⟨2, ![16, 1]⟩
abbrev S1x64x64 : Shape := ⟨3, ![1, 64, 64]⟩
abbrev S1 : Shape := ⟨1, ![1]⟩
abbrev S1x1x1 : Shape := ⟨3, ![1, 1, 1]⟩
abbrev S1x16x64 : Shape := ⟨3, ![1, 16, 64]⟩
abbrev S16 : Shape := ⟨1, ![16]⟩
abbrev S1x1 : Shape := ⟨2, ![1, 1]⟩

abbrev nBuf : Space → Nat
  | .hbm => 7
  | .vmem => 8
  | .smem => 0
  | _ => 0

abbrev bufTy : (tb : Table) → Fin (tcTables nBuf tb) → BufTy
  | .hbm, ⟨0, _⟩ => ⟨S4096x16x64, .f32⟩
  | .hbm, ⟨1, _⟩ => ⟨S64, .f32⟩
  | .hbm, ⟨2, _⟩ => ⟨S64, .f32⟩
  | .hbm, ⟨3, _⟩ => ⟨S64x64, .f32⟩
  | .hbm, ⟨4, _⟩ => ⟨S1x64, .f32⟩
  | .hbm, ⟨5, _⟩ => ⟨S1x64, .f32⟩
  | .hbm, ⟨6, _⟩ => ⟨S1x16, .f32⟩
  | .local _ .vmem, ⟨0, _⟩ => ⟨S512x16x64, .f32⟩
  | .local _ .vmem, ⟨1, _⟩ => ⟨S512x16x64, .f32⟩
  | .local _ .vmem, ⟨2, _⟩ => ⟨S1x64, .f32⟩
  | .local _ .vmem, ⟨3, _⟩ => ⟨S1x64, .f32⟩
  | .local _ .vmem, ⟨4, _⟩ => ⟨S64x64, .f32⟩
  | .local _ .vmem, ⟨5, _⟩ => ⟨S1x16, .f32⟩
  | .local _ .vmem, ⟨6, _⟩ => ⟨S16x64, .f32⟩
  | .local _ .vmem, ⟨7, _⟩ => ⟨S16x1, .i32⟩
  | _, _ => ⟨S4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v8 : BitVec 1 := Scalar.cmpi .eq arg0 c0_i32
  let v9 : BitVec 32 := Scalar.extui v8
  let c0_i32_1 : BitVec 32 := 0#32
  let v10 : BitVec 1 := Scalar.cmpi .ne v9 c0_i32_1
  v10

@[reducible] def k0_t1_loop : Scf.Loop 32 :=
  let c1_i32 : BitVec 32 := 1#32
  let c511_i32 : BitVec 32 := 511#32
  let v27 : BitVec 32 := Scalar.addi c1_i32 c511_i32
  let c1_i32_12 : BitVec 32 := 1#32
  ⟨c1_i32, v27, c1_i32_12⟩
def k0_off1 (k0_t1 : Fin k0_t1_loop.trips) : Fin 3 → Nat :=
  let c1_i32 : BitVec 32 := 1#32
  let c1_i32_12 : BitVec 32 := 1#32
  let arg8 : BitVec 32 := Scf.iv c1_i32 c1_i32_12 k0_t1
  let v37 : Index := Scalar.indexCast arg8
  let c0_18 : Index := 0#32
  let c0_19 : Index := 0#32
  ![v37.toNat, 0, 0]
def k0_cond2 (i : grid0.Coords) : BitVec 1 :=
  let arg0 : BitVec 32 := BitVec.ofNat 32 (i 0).val
  let c0_i32_2 : BitVec 32 := 0#32
  let v11 : BitVec 1 := Scalar.cmpi .sgt arg0 c0_i32_2
  let v12 : BitVec 32 := Scalar.extui v11
  let c0_i32_3 : BitVec 32 := 0#32
  let v13 : BitVec 1 := Scalar.cmpi .ne v12 c0_i32_3
  v13

@[reducible] def k0_t2_loop : Scf.Loop 32 :=
  let c0_i32_10 : BitVec 32 := 0#32
  let c512_i32 : BitVec 32 := 512#32
  let v20 : BitVec 32 := Scalar.addi c0_i32_10 c512_i32
  let c1_i32 : BitVec 32 := 1#32
  ⟨c0_i32_10, v20, c1_i32⟩
def k0_off2 (k0_t2 : Fin k0_t2_loop.trips) : Fin 3 → Nat :=
  let c0_i32_10 : BitVec 32 := 0#32
  let c1_i32 : BitVec 32 := 1#32
  let arg8 : BitVec 32 := Scf.iv c0_i32_10 c1_i32 k0_t2
  let v30 : Index := Scalar.indexCast arg8
  let c0_16 : Index := 0#32
  let c0_17 : Index := 0#32
  ![v30.toNat, 0, 0]
def k0_cond3 (i : grid0.Coords) : BitVec 1 :=
  let arg0 : BitVec 32 := BitVec.ofNat 32 (i 0).val
  let c7_i32 : BitVec 32 := 7#32
  let v14 : BitVec 1 := Scalar.cmpi .eq arg0 c7_i32
  let v15 : BitVec 32 := Scalar.extui v14
  let c0_i32_4 : BitVec 32 := 0#32
  let v16 : BitVec 1 := Scalar.cmpi .ne v15 c0_i32_4
  v16

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== ReferenceIdeal.lean ====
abbrev S4096x16x64 : Shape := ⟨3, ![4096, 16, 64]⟩
abbrev S64 : Shape := ⟨1, ![64]⟩
abbrev S64x64 : Shape := ⟨2, ![64, 64]⟩
abbrev S1x64 : Shape := ⟨2, ![1, 64]⟩
abbrev S1x16x64 : Shape := ⟨3, ![1, 16, 64]⟩
abbrev S16x64 : Shape := ⟨2, ![16, 64]⟩
abbrev S4095x16x64 : Shape := ⟨3, ![4095, 16, 64]⟩
abbrev S_ : Shape := ⟨0, ![]⟩
abbrev S16x1x64 : Shape := ⟨3, ![16, 1, 64]⟩
abbrev S1x64x64 : Shape := ⟨3, ![1, 64, 64]⟩
abbrev S16x64x64 : Shape := ⟨3, ![16, 64, 64]⟩
abbrev S16x64x1 : Shape := ⟨3, ![16, 64, 1]⟩
abbrev S16 : Shape := ⟨1, ![16]⟩
abbrev S16x1 : Shape := ⟨2, ![16, 1]⟩
abbrev S1x16 : Shape := ⟨2, ![1, 16]⟩

abbrev nBuf : Space → Nat
  | .hbm => 53
  | .vmem => 0
  | .smem => 0
  | _ => 0

abbrev bufTy : (tb : Table) → Fin (tcTables nBuf tb) → BufTy
  | .hbm, ⟨0, _⟩ => ⟨S4096x16x64, .f32⟩
  | .hbm, ⟨1, _⟩ => ⟨S64, .f32⟩
  | .hbm, ⟨2, _⟩ => ⟨S64, .f32⟩
  | .hbm, ⟨3, _⟩ => ⟨S64x64, .f32⟩
  | .hbm, ⟨4, _⟩ => ⟨S1x64, .f32⟩
  | .hbm, ⟨5, _⟩ => ⟨S1x16x64, .f32⟩
  | .hbm, ⟨6, _⟩ => ⟨S16x64, .f32⟩
  | .hbm, ⟨7, _⟩ => ⟨S16x64, .f32⟩
  | .hbm, ⟨8, _⟩ => ⟨S16x64, .f32⟩
  | .hbm, ⟨9, _⟩ => ⟨S4095x16x64, .f32⟩
  | .hbm, ⟨10, _⟩ => ⟨S_, .i32⟩
  | .hbm, ⟨11, _⟩ => ⟨S4095x16x64, .f32⟩
  | .hbm, ⟨12, _⟩ => ⟨S64x64, .f32⟩
  | .hbm, ⟨13, _⟩ => ⟨S_, .i32⟩
  | .hbm, ⟨14, _⟩ => ⟨S16x64, .f32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S1x16x64, .f32⟩
  | .hbm, ⟨20, _⟩ => ⟨S16x64, .f32⟩
  | .hbm, ⟨21, _⟩ => ⟨S16x1x64, .f32⟩
  | .hbm, ⟨22, _⟩ => ⟨S1x64x64, .f32⟩
  | .hbm, ⟨23, _⟩ => ⟨S16x64x64, .f32⟩
  | .hbm, ⟨24, _⟩ => ⟨S16x64x64, .f32⟩
  | .hbm, ⟨25, _⟩ => ⟨S16x64x64, .f32⟩
  | .hbm, ⟨26, _⟩ => ⟨S_, .f32⟩
  | .hbm, ⟨27, _⟩ => ⟨S16x64, .f32⟩
  | .hbm, ⟨28, _⟩ => ⟨S16x64x1, .f32⟩
  | .hbm, ⟨29, _⟩ => ⟨S16x64x64, .f32⟩
  | .hbm, ⟨30, _⟩ => ⟨S16x64x64, .f32⟩
  | .hbm, ⟨31, _⟩ => ⟨S16x64x64, .f32⟩
  | .hbm, ⟨32, _⟩ => ⟨S_, .f32⟩
  | .hbm, ⟨33, _⟩ => ⟨S16x64, .f32⟩
  | .hbm, ⟨34, _⟩ => ⟨S16x64, .f32⟩
  | .hbm, ⟨35, _⟩ => ⟨S16x64, .f32⟩
  | .hbm, ⟨36, _⟩ => ⟨S16x64, .f32⟩
  | .hbm, ⟨37, _⟩ => ⟨S_, .i32⟩
  | .hbm, ⟨38, _⟩ => ⟨S_, .i32⟩
  | .hbm, ⟨39, _⟩ => ⟨S1x64, .f32⟩
  | .hbm, ⟨40, _⟩ => ⟨S16x64, .f32⟩
  | .hbm, ⟨41, _⟩ => ⟨S16x64, .f32⟩
  | .hbm, ⟨42, _⟩ => ⟨S_, .f32⟩
  | .hbm, ⟨43, _⟩ => ⟨S16, .f32⟩
  | .hbm, ⟨44, _⟩ => ⟨S16x1, .f32⟩
  | .hbm, ⟨45, _⟩ => ⟨S16x64, .f32⟩
  | .hbm, ⟨46, _⟩ => ⟨S16x64, .f32⟩
  | .hbm, ⟨47, _⟩ => ⟨S16x64, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S16, .f32⟩
  | .hbm, ⟨52, _⟩ => ⟨S1x16, .f32⟩
  | _, _ => ⟨S4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_while0c_c_4 : Ref sig .tc := ⟨.hbm, 15, rfl⟩
abbrev main_while0c_v19 : Ref sig .tc := ⟨.hbm, 16, rfl⟩
abbrev main_while0b_call0_c : Ref sig .tc := ⟨.hbm, 17, rfl⟩
abbrev main_while0b_call0_c_0 : Ref sig .tc := ⟨.hbm, 18, rfl⟩
abbrev main_while0b_call0_v0 : Ref sig .tc := ⟨.hbm, 19, rfl⟩
abbrev main_while0b_v19 : Ref sig .tc := ⟨.hbm, 20, rfl⟩
abbrev main_while0b_v20 : Ref sig .tc := ⟨.hbm, 21, rfl⟩
abbrev main_while0b_v21 : Ref sig .tc := ⟨.hbm, 22, rfl⟩
abbrev main_while0b_v22 : Ref sig .tc := ⟨.hbm, 23, rfl⟩
abbrev main_while0b_v23 : Ref sig .tc := ⟨.hbm, 24, rfl⟩
abbrev main_while0b_v24 : Ref sig .tc := ⟨.hbm, 25, rfl⟩
abbrev main_while0b_cst_4 : Ref sig .tc := ⟨.hbm, 26, rfl⟩
abbrev main_while0b_v25 : Ref sig .tc := ⟨.hbm, 27, rfl⟩
abbrev main_while0b_v26 : Ref sig .tc := ⟨.hbm, 28, rfl⟩
abbrev main_while0b_v27 : Ref sig .tc := ⟨.hbm, 29, rfl⟩
abbrev main_while0b_v28 : Ref sig .tc := ⟨.hbm, 30, rfl⟩
abbrev main_while0b_v29 : Ref sig .tc := ⟨.hbm, 31, rfl⟩
abbrev main_while0b_cst_5 : Ref sig .tc := ⟨.hbm, 32, rfl⟩
abbrev main_while0b_v30 : Ref sig .tc := ⟨.hbm, 33, rfl⟩
abbrev main_while0b_v31 : Ref sig .tc := ⟨.hbm, 34, rfl⟩
abbrev main_while0b_v32 : Ref sig .tc := ⟨.hbm, 35, rfl⟩
abbrev main_while0b_v33 : Ref sig .tc := ⟨.hbm, 36, rfl⟩
abbrev main_while0b_c_6 : Ref sig .tc := ⟨.hbm, 37, rfl⟩
abbrev main_while0b_v34 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_cst : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_cst_0 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩

abbrev nD : Nat := 1
abbrev τ : Topo := Topo.v7x

variable {F : FTy → Type} [FloatOps F]

abbrev main_while0_count : Scf.Loop 32 := ⟨0#32, 4095#32, 1#32⟩
-- ==== Proof.Read.lean ====
/-
  What one grid point of the kernel leaves in its carried scratch and in its output block, as plain functions of the
  staged blocks: the counted loop is `chunk`, iterated `step`s over the rows of the emission block.
-/
module

public import proofs.«01_k».proof.Proof.Gen.KernelIdeal.Value
public import Idealize.ShloMosaic.Lib.WholeRead
public import Idealize.ShloMosaic.Lib.Pointwise
public import Idealize.ShloMosaic.Lib.Pipeline.ReadBack
public import Idealize.ShloMosaic.Lib.Pipeline.ValueKit

@[expose] public section

set_option maxRecDepth 8192

noncomputable section

namespace Cert.Proof.Read

open Cert.KernelIdeal Cert.KernelIdeal.Gen Idealize.ShloMosaic Idealize.ShloMosaic.TcCoe Idealize.SL.Sem

variable {F : FTy → Type} [FloatOps F] [Named F]

/-- What a loop carries: the weights, the scale still to be applied to them, the sum of exponents. -/
abbrev St (F : FTy → Type) := FVec F S16x64 .f32 × FVec F S16x1 .f32 × IVec S16x1 32

/-- Row `k` of an emission block (`k` below 512). -/
def emRow (x : Vec F S512x16x64 .f32) (k : ℕ) : Vec F S1x16x64 .f32 :=
  fun y => x (ix3 ⟨k % 512, Nat.mod_lt _ (by decide)⟩ (y 1) (y 2))

/-- One trip of the loop on what it carries. -/
def step (v0 : Vec F S64x64 .f32) (e : Vec F S1x16x64 .f32) (a : St F) : St F :=
  (k0_pay6 v0 a.1 a.2.1 e, k0_pay8 v0 a.1 a.2.1 e, k0_pay9 v0 a.1 a.2.1 a.2.2 e)

/-- `k` trips from `init`, the first on row `lo`. -/
def chunk (v0 : Vec F S64x64 .f32) (x : Vec F S512x16x64 .f32) (lo : ℕ) (init : St F) : ℕ → St F
  | 0 => init
  | k + 1 => step v0 (emRow x (lo + k)) (chunk v0 x lo init k)

/-- Trip `k` of the first loop loads row `1 + k`. -/
theorem row1 {arg1 : Memref sig .tc .vmem S512x16x64 .f32} (harg1 : arg1.IsWhole) (x : Vec F S512x16x64 .f32) (k : Fin k0_t1_loop.trips)
    (p : ∀ a, (k0_off1 k) a + (![1, 16, 64] : Fin 3 → ℕ) a ≤ S512x16x64.size a) :
    View.readAt (Elt F) arg1.view (Rect.unit (k0_off1 k) ![1, 16, 64] p).toLoadRect (harg1.unread x) = emRow x (1 + k.val) := by
  funext y
  rw [harg1.readAt_unread]
  have hk : k.val < 511 := Nat.lt_of_lt_of_le k.isLt k0_t1_abs.2.1
  have h0 : k0_off1 k 0 = k.val + 1 := by rw [k0_off1_eq]; rfl
  have h1 : k0_off1 k 1 = 0 := by rw [k0_off1_eq]; rfl
  have h2 : k0_off1 k 2 = 0 := by rw [k0_off1_eq]; rfl
  have hy : (y 0).val = 0 := Nat.lt_one_iff.mp (y 0).isLt
  refine congrArg x (funext fun a => Fin.ext ?_)
  match a with
  | 0 => show k0_off1 k 0 + 1 * (y 0).val = (1 + k.val) % 512; omega
  | 1 => show k0_off1 k 1 + 1 * (y 1).val = (y 1).val; omega
  | 2 => show k0_off1 k 2 + 1 * (y 2).val = (y 2).val; omega

/-- Trip `k` of the second loop loads row `k`. -/
theorem row2 {arg1 : Memref sig .tc .vmem S512x16x64 .f32} (harg1 : arg1.IsWhole) (x : Vec F S512x16x64 .f32) (k : Fin k0_t2_loop.trips)
    (p : ∀ a, (k0_off2 k) a + (![1, 16, 64] : Fin 3 → ℕ) a ≤ S512x16x64.size a) :
    View.readAt (Elt F) arg1.view (Rect.unit (k0_off2 k) ![1, 16, 64] p).toLoadRect (harg1.unread x) = emRow x (0 + k.val) := by
  funext y
  rw [harg1.readAt_unread]
  have hk : k.val < 512 := Nat.lt_of_lt_of_le k.isLt k0_t2_abs.2.1
  have h0 : k0_off2 k 0 = k.val := by rw [k0_off2_eq]; rfl
  have h1 : k0_off2 k 1 = 0 := by rw [k0_off2_eq]; rfl
  have h2 : k0_off2 k 2 = 0 := by rw [k0_off2_eq]; rfl
  have hy : (y 0).val = 0 := Nat.lt_one_iff.mp (y 0).isLt
  refine congrArg x (funext fun a => Fin.ext ?_)
  match a with
  | 0 => show k0_off2 k 0 + 1 * (y 0).val = (0 + k.val) % 512; omega
  | 1 => show k0_off2 k 1 + 1 * (y 1).val = (y 1).val; omega
  | 2 => show k0_off2 k 2 + 1 * (y 2).val = (y 2).val; omega

set_option maxHeartbeats 1000000 in
/-- What loop 1 carries before trip `k` is `chunk`: `k` steps from row 1 of the staged emission block. -/
theorem st1_eq (𝒱 : Variants) (c : Dev nD) (bd : Option 𝒱.V) (i : grid0.Coords) (arg1 : Memref sig .tc .vmem S512x16x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x16 .f32) (harg5 : arg5.IsWhole) (arg6 : Memref sig .tc .vmem S16x64 .f32) (harg6 : arg6.IsWhole) (arg7 : Memref sig .tc .vmem S16x1 .i32) (harg7 : arg7.IsWhole) (v0 : Vec F S64x64 .f32) (h : k0_cond1 i = 1#1)
    (x : Vec F S512x16x64 .f32) (init : St F) : ∀ k, k ≤ k0_t1_loop.trips →
    st_k0_t1 (F := F) 𝒱 c bd i arg1 harg1 arg2 harg2 arg3 harg3 arg4 harg4 arg5 harg5 arg6 harg6 arg7 harg7 v0 h (harg1.unread x) init k = chunk v0 x 1 init k
  | 0, _ => rfl
  | k + 1, hk => by
    rw [st_k0_t1_succ (F := F) 𝒱 c bd i arg1 harg1 arg2 harg2 arg3 harg3 arg4 harg4 arg5 harg5 arg6 harg6 arg7 harg7 v0 h _ init ⟨k, hk⟩]
    unfold tripR_k0_t1 trip_k0_t1
    dsimp only
    rw [st1_eq 𝒱 c bd i arg1 harg1 arg2 harg2 arg3 harg3 arg4 harg4 arg5 harg5 arg6 harg6 arg7 harg7 v0 h x init k (Nat.le_of_succ_le hk), row1 harg1 x ⟨k, hk⟩]
    rfl

set_option maxHeartbeats 1000000 in
/-- What loop 2 carries before trip `k` is `chunk`: `k` steps from row 0 of the staged emission block. -/
theorem st2_eq (𝒱 : Variants) (c : Dev nD) (bd : Option 𝒱.V) (i : grid0.Coords) (arg1 : Memref sig .tc .vmem S512x16x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x16 .f32) (harg5 : arg5.IsWhole) (arg6 : Memref sig .tc .vmem S16x64 .f32) (harg6 : arg6.IsWhole) (arg7 : Memref sig .tc .vmem S16x1 .i32) (harg7 : arg7.IsWhole) (v0 : Vec F S64x64 .f32) (h : k0_cond2 i = 1#1)
    (x : Vec F S512x16x64 .f32) (init : St F) : ∀ k, k ≤ k0_t2_loop.trips →
    st_k0_t2 (F := F) 𝒱 c bd i arg1 harg1 arg2 harg2 arg3 harg3 arg4 harg4 arg5 harg5 arg6 harg6 arg7 harg7 v0 h (harg1.unread x) init k = chunk v0 x 0 init k
  | 0, _ => rfl
  | k + 1, hk => by
    rw [st_k0_t2_succ (F := F) 𝒱 c bd i arg1 harg1 arg2 harg2 arg3 harg3 arg4 harg4 arg5 harg5 arg6 harg6 arg7 harg7 v0 h _ init ⟨k, hk⟩]
    unfold tripR_k0_t2 trip_k0_t2
    dsimp only
    rw [st2_eq 𝒱 c bd i arg1 harg1 arg2 harg2 arg3 harg3 arg4 harg4 arg5 harg5 arg6 harg6 arg7 harg7 v0 h x init k (Nat.le_of_succ_le hk), row2 harg1 x ⟨k, hk⟩]
    rfl

theorem trips1 : k0_t1_loop.trips = 511 := by decide

theorem trips2 : k0_t2_loop.trips = 512 := by decide

/-- The carry after the first grid point: 511 trips from `exp (start + em 0)`, scale one, exponent sum zero. -/
def first (x0 : Vec F S512x16x64 .f32) (x1 : Vec F S1x64 .f32) (x3 : Vec F S64x64 .f32) : St F :=
  chunk x3 x0 1 (k0_pay3 x1 (emRow x0 0), k0_pay5, k0_pay4) 511

/-- The carry after a later grid point: 512 trips from the carried weights and exponent sum, scale one. -/
def later (x0 : Vec F S512x16x64 .f32) (x3 : Vec F S64x64 .f32) (p : Vec F S16x64 .f32) (sc : Vec F S16x1 .i32) : St F :=
  chunk x3 x0 0 (p, k0_pay12, sc) 512

/-- The staged emission block's first row, loaded. -/
theorem ld_row0 (x0 : Vec F S512x16x64 .f32) :
    View.ld x0 (Rect.unit ![0, 0, 0] ![1, 16, 64] inb_S512x16x64_S1x16x64_0_0_0) = emRow x0 0 := by
  funext y
  have hy : (y 0).val = 0 := Nat.lt_one_iff.mp (y 0).isLt
  refine congrArg x0 (funext fun a => Fin.ext ?_)
  match a with
  | 0 => show 0 + 1 * (y 0).val = 0 % 512; omega
  | 1 => show 0 + 1 * (y 1).val = (y 1).val; omega
  | 2 => show 0 + 1 * (y 2).val = (y 2).val; omega

set_option maxHeartbeats 1000000 in
/-- The weights the first point leaves. -/
theorem soutA0 (c : Dev nD) (i : grid0.Coords) (arg1 : Memref sig .tc .vmem S512x16x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x16 .f32) (harg5 : arg5.IsWhole) (arg6 : Memref sig .tc .vmem S16x64 .f32) (harg6 : arg6.IsWhole) (arg7 : Memref sig .tc .vmem S16x1 .i32) (harg7 : arg7.IsWhole) (hc0 hc1 hc2) (x0 x1 x2 x3) :
    sout0_A_0 (F := F) c i arg1 harg1 arg2 harg2 arg3 harg3 arg4 harg4 arg5 harg5 arg6 harg6 arg7 harg7 hc0 hc1 hc2 x0 x1 x2 x3 = k0_pay10 (first x0 x1 x3).1 (first x0 x1 x3).2.1 := by
  frame_out
  rw [ld_row0, st1_eq _ _ _ _ _ _ _ _ _ _ _ _ _ _ _ _ _ _ _ _ _ _ _ (le_refl _), trips1]
  rfl

set_option maxHeartbeats 1000000 in
/-- The exponent sums the first point leaves. -/
theorem soutA1 (c : Dev nD) (i : grid0.Coords) (arg1 : Memref sig .tc .vmem S512x16x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x16 .f32) (harg5 : arg5.IsWhole) (arg6 : Memref sig .tc .vmem S16x64 .f32) (harg6 : arg6.IsWhole) (arg7 : Memref sig .tc .vmem S16x1 .i32) (harg7 : arg7.IsWhole) (hc0 hc1 hc2) (x0 x1 x2 x3) :
    sout0_A_1 (F := F) c i arg1 harg1 arg2 harg2 arg3 harg3 arg4 harg4 arg5 harg5 arg6 harg6 arg7 harg7 hc0 hc1 hc2 x0 x1 x2 x3 = k0_pay11 (first x0 x1 x3).2.2 := by
  frame_out
  rw [ld_row0, st1_eq _ _ _ _ _ _ _ _ _ _ _ _ _ _ _ _ _ _ _ _ _ _ _ (le_refl _), trips1]
  rfl

set_option maxHeartbeats 1000000 in
/-- The weights a middle point leaves. -/
theorem soutB0 (c : Dev nD) (i : grid0.Coords) (arg1 : Memref sig .tc .vmem S512x16x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x16 .f32) (harg5 : arg5.IsWhole) (arg6 : Memref sig .tc .vmem S16x64 .f32) (harg6 : arg6.IsWhole) (arg7 : Memref sig .tc .vmem S16x1 .i32) (harg7 : arg7.IsWhole) (hc0 hc1 hc2) (x0 x1 x2 x3 xs0 xs1) :
    sout0_B_0 (F := F) c i arg1 harg1 arg2 harg2 arg3 harg3 arg4 harg4 arg5 harg5 arg6 harg6 arg7 harg7 hc0 hc1 hc2 x0 x1 x2 x3 xs0 xs1 = k0_pay17 (later x0 x3 xs0 xs1).1 (later x0 x3 xs0 xs1).2.1 := by
  frame_out
  rw [st2_eq _ _ _ _ _ _ _ _ _ _ _ _ _ _ _ _ _ _ _ _ _ _ _ (le_refl _), trips2]
  rfl

set_option maxHeartbeats 1000000 in
/-- The exponent sums a middle point leaves. -/
theorem soutB1 (c : Dev nD) (i : grid0.Coords) (arg1 : Memref sig .tc .vmem S512x16x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x16 .f32) (harg5 : arg5.IsWhole) (arg6 : Memref sig .tc .vmem S16x64 .f32) (harg6 : arg6.IsWhole) (arg7 : Memref sig .tc .vmem S16x1 .i32) (harg7 : arg7.IsWhole) (hc0 hc1 hc2) (x0 x1 x2 x3 xs0 xs1) :
    sout0_B_1 (F := F) c i arg1 harg1 arg2 harg2 arg3 harg3 arg4 harg4 arg5 harg5 arg6 harg6 arg7 harg7 hc0 hc1 hc2 x0 x1 x2 x3 xs0 xs1 = k0_pay18 (F := F) (later x0 x3 xs0 xs1).2.2 := by
  frame_out
  rw [st2_eq _ _ _ _ _ _ _ _ _ _ _ _ _ _ _ _ _ _ _ _ _ _ _ (le_refl _), trips2]
  rfl

set_option maxHeartbeats 1000000 in
/-- The block the last point stores. -/
theorem outC4 (c : Dev nD) (i : grid0.Coords) (arg1 : Memref sig .tc .vmem S512x16x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x16 .f32) (harg5 : arg5.IsWhole) (arg6 : Memref sig .tc .vmem S16x64 .f32) (harg6 : arg6.IsWhole) (arg7 : Memref sig .tc .vmem S16x1 .i32) (harg7 : arg7.IsWhole) (hc0 hc1 hc2) (x0 x1 x2 x3 xs0 xs1) :
    out0_C_4 (F := F) c i arg1 harg1 arg2 harg2 arg3 harg3 arg4 harg4 arg5 harg5 arg6 harg6 arg7 harg7 hc0 hc1 hc2 x0 x1 x2 x3 xs0 xs1 = k0_pay19 x3 x2 (k0_pay17 (later x0 x3 xs0 xs1).1 (later x0 x3 xs0 xs1).2.1) (k0_pay18 (F := F) (later x0 x3 xs0 xs1).2.2) := by
  frame_out
  rw [st2_eq _ _ _ _ _ _ _ _ _ _ _ _ _ _ _ _ _ _ _ _ _ _ _ (le_refl _), trips2]
  rfl

variable (m : (ℓ : Loc nD τ sig) → Buf (Elt F) ℓ)

/-- The weights carried after the first grid point. -/
theorem weights_first (c : Dev nD) (h : 0 < cfg0.N) :
    (outsAt0 m c 0 h).2.1 = k0_pay10 (first (iblk m c 0 ⟨0, h⟩) (iblk m c 1 ⟨0, h⟩) (iblk m c 3 ⟨0, h⟩)).1 (first (iblk m c 0 ⟨0, h⟩) (iblk m c 1 ⟨0, h⟩) (iblk m c 3 ⟨0, h⟩)).2.1 := by
  rw [Value.outsAt0_zero, Value.stAt0_A m c ⟨0, h⟩ _ (Nat.zero_mod _) (by dsimp only; omega) (by dsimp only; omega)]
  dsimp only
  rw [soutA0]
  first | done | rfl

/-- The exponent sums carried after the first grid point. -/
theorem exps_first (c : Dev nD) (h : 0 < cfg0.N) :
    (outsAt0 m c 0 h).2.2 = k0_pay11 (first (iblk m c 0 ⟨0, h⟩) (iblk m c 1 ⟨0, h⟩) (iblk m c 3 ⟨0, h⟩)).2.2 := by
  rw [Value.outsAt0_zero, Value.stAt0_A m c ⟨0, h⟩ _ (Nat.zero_mod _) (by dsimp only; omega) (by dsimp only; omega)]
  dsimp only
  rw [soutA1]
  first | done | rfl

/-- The carry at the end of grid point `n + 1`'s loop. -/
def laterAt (c : Dev nD) (n : ℕ) (h : n + 1 < cfg0.N) : St F :=
  later (iblk m c 0 ⟨n + 1, h⟩) (iblk m c 3 ⟨n + 1, h⟩) (outsAt0 m c n (Nat.lt_of_succ_lt h)).2.1 (outsAt0 m c n (Nat.lt_of_succ_lt h)).2.2

/-- The weights carried after a middle grid point. -/
theorem weights_later (c : Dev nD) (n : ℕ) (h : n + 1 < cfg0.N) (hn : n + 1 < 7) :
    (outsAt0 m c (n + 1) h).2.1 = k0_pay17 (laterAt m c n h).1 (laterAt m c n h).2.1 := by
  rw [Value.outsAt0_succ, Value.stAt0_B m c ⟨n + 1, h⟩ _ (by dsimp only; omega) (by dsimp only; omega) (by dsimp only; omega)]
  dsimp only
  rw [soutB0]
  first | done | rfl

/-- The exponent sums carried after a middle grid point. -/
theorem exps_later (c : Dev nD) (n : ℕ) (h : n + 1 < cfg0.N) (hn : n + 1 < 7) :
    (outsAt0 m c (n + 1) h).2.2 = k0_pay18 (F := F) (laterAt m c n h).2.2 := by
  rw [Value.outsAt0_succ, Value.stAt0_B m c ⟨n + 1, h⟩ _ (by dsimp only; omega) (by dsimp only; omega) (by dsimp only; omega)]
  dsimp only
  rw [soutB1]
  first | done | rfl

/-- The result array: the last point's block. -/
theorem result_eq (c : Dev nD) (h : 6 + 1 < cfg0.N) :
    Value.G4 m c = k0_pay19 (iblk m c 3 ⟨6 + 1, h⟩) (iblk m c 2 ⟨6 + 1, h⟩) (k0_pay17 (laterAt m c 6 h).1 (laterAt m c 6 h).2.1) (k0_pay18 (F := F) (laterAt m c 6 h).2.2) := by
  rw [Value.G4_last, ← Value.outsAt0_sweep m c 7 h, Value.outsAt0_succ, Value.stAt0_C m c ⟨6 + 1, h⟩ _ (by dsimp only; omega) (by dsimp only; omega) (by dsimp only)]
  dsimp only
  rw [outC4]
  first | done | rfl

end Cert.Proof.Read

end
-- ==== Proof.Blocks.lean ====
/-
  The staged blocks of the kernel's inputs at an index: block `t` of the emissions holds rows `512 t …`, the others are the whole arrays.
-/
module

public import proofs.«01_k».proof.Proof.Read
public import Idealize.ShloMosaic.Lib.Claim

@[expose] public section

set_option maxRecDepth 8192

noncomputable section

namespace Cert.Proof.Blocks

open Cert.KernelIdeal Cert.KernelIdeal.Gen Idealize.ShloMosaic Idealize.ShloMosaic.TcCoe Idealize.SL.Sem

variable {F : FTy → Type} [FloatOps F] [Named F]
variable (m : (ℓ : Loc nD τ sig) → Buf (Elt F) ℓ)

/-- The printed index maps of the four inputs over the grid. -/
theorem idx : ∀ t : Fin cfg0.N, win0_0.index t = ![t.val, 0, 0] ∧ win0_1.index t = ![0, 0] ∧ win0_2.index t = ![0, 0]
    ∧ win0_3.index t = ![0, 0] :=
  (by decide +kernel : ∀ t : Fin grid0.N, _)

theorem row_lt (t : Fin cfg0.N) (r : Fin 512) : 512 * t.val + r.val < 4096 := by
  have h : t.val < 8 := lt_of_lt_of_eq t.isLt N_0
  have := r.isLt
  omega

/-- Row `r` of emission block `t` is row `512 t + r` of the emissions. -/
theorem em_apply (c : Dev nD) (t : Fin cfg0.N) (r : Fin 512) (b : Fin 16) (i : Fin 64) :
    iblk m c 0 t (ix3 r b i) = m ((c : Thread nD τ).loc main_arg0) (ix3 ⟨512 * t.val + r.val, row_lt t r⟩ b i) := by
  blk_ext [iblk, V, idx t]

/-- The staged start scores. -/
theorem start_apply (c : Dev nD) (t : Fin cfg0.N) (i : Fin 64) :
    iblk m c 1 t (ix2 0 i) = m ((c : Thread nD τ).loc main_arg1) (ix1 i) := by
  blk_ext! [iblk, V, idx t]

/-- The staged stop scores. -/
theorem stop_apply (c : Dev nD) (t : Fin cfg0.N) (i : Fin 64) :
    iblk m c 2 t (ix2 0 i) = m ((c : Thread nD τ).loc main_arg2) (ix1 i) := by
  blk_ext! [iblk, V, idx t]

/-- The staged transition scores. -/
theorem trans_apply (c : Dev nD) (t : Fin cfg0.N) (i j : Fin 64) :
    iblk m c 3 t (ix2 i j) = m ((c : Thread nD τ).loc main_arg3) (ix2 i j) := by
  blk_ext [iblk, V, idx t]

end Cert.Proof.Blocks

end
-- ==== Proof.Weights.lean ====
/-
  The forward weights over the reals, and the invariant of a renormalised sweep: the weights are kept divided by a power of two
  and by a power of `exp tm`, and the exponent of the power of two stays small.
-/
module

public import Idealize.ShloMosaic.PureOps.Ideal
public import Mathlib.Analysis.SpecialFunctions.Pow.Real

@[expose] public section

noncomputable section

namespace Cert.Proof.Weights

open Finset

/-- The largest of 64 reals. -/
def mx (f : Fin 64 → ℝ) : ℝ := univ.sup' ⟨0, mem_univ _⟩ f

theorem le_mx (f : Fin 64 → ℝ) (i : Fin 64) : f i ≤ mx f := le_sup' f (mem_univ i)

theorem mx_attained (f : Fin 64 → ℝ) : ∃ i, mx f = f i := by
  obtain ⟨i, -, h⟩ := exists_mem_eq_sup' (⟨0, mem_univ _⟩ : (univ : Finset (Fin 64)).Nonempty) f
  exact ⟨i, h⟩

/-- A fold of `max` from minus infinity over 64 reals is the largest of them. -/
theorem fold_max (f : Fin 64 → ℝ) : Finset.fold max (⊥ : EReal) (fun i => ((f i : ℝ) : EReal)) univ = ((mx f : ℝ) : EReal) := by
  apply le_antisymm
  · rw [Finset.fold_max_le]
    exact ⟨bot_le, fun i _ => EReal.coe_le_coe_iff.mpr (le_mx f i)⟩
  · obtain ⟨i, h⟩ := mx_attained f
    rw [Finset.le_fold_max]
    exact Or.inr ⟨i, mem_univ i, by rw [h]⟩

/-- A sum of 64 reals, taken among the extended reals. -/
theorem sum_coe (f : Fin 64 → ℝ) : (∑ i, ((f i : ℝ) : EReal)) = ((∑ i, f i : ℝ) : EReal) := by
  induction (univ : Finset (Fin 64)) using Finset.induction_on with
  | empty => simp
  | insert a s ha ih => rw [sum_insert ha, sum_insert ha, ih, EReal.coe_add]

/-- The forward weights of one batch element: `fwd t i` sums `exp` of the scores of every path of length `t + 1` that ends in state `i`. -/
def fwd (W : Fin 64 → Fin 64 → ℝ) (S : Fin 64 → ℝ) (E : ℕ → Fin 64 → ℝ) : ℕ → Fin 64 → ℝ
  | 0, i => Real.exp (S i + E 0 i)
  | t + 1, i => (∑ j, fwd W S E t j * Real.exp (W i j)) * Real.exp (E (t + 1) i)

theorem fwd_pos (W : Fin 64 → Fin 64 → ℝ) (S : Fin 64 → ℝ) (E : ℕ → Fin 64 → ℝ) : ∀ t i, 0 < fwd W S E t i
  | 0, i => Real.exp_pos _
  | t + 1, i => mul_pos (sum_pos (fun j _ => mul_pos (fwd_pos W S E t j) (Real.exp_pos _)) ⟨0, mem_univ _⟩) (Real.exp_pos _)

/-- One step of the sweep on the weights `q`, the transitions shifted by `tm`. -/
def nxt (W : Fin 64 → Fin 64 → ℝ) (tm : ℝ) (e : Fin 64 → ℝ) (q : Fin 64 → ℝ) (i : Fin 64) : ℝ :=
  (∑ j, q j * Real.exp (W i j - tm)) * Real.exp (e i)

/-- The exponent of two of the largest weight. -/
def expo (r : Fin 64 → ℝ) : ℤ := ⌊Real.log (mx r) * (Real.log 2)⁻¹⌋

/-- The weights `q` after `t` steps stand for `q · 2 ^ z · exp (t · tm)`, and neither they nor `z` have grown. -/
structure Inv (W : Fin 64 → Fin 64 → ℝ) (S : Fin 64 → ℝ) (E : ℕ → Fin 64 → ℝ) (tm : ℝ) (t : ℕ) (q : Fin 64 → ℝ) (z : ℤ) : Prop where
  pos : ∀ i, 0 < q i
  eq : ∀ i, q i * 2 ^ z * Real.exp (t * tm) = fwd W S E t i
  zb : |z| ≤ 100000 * t
  lo : ∃ i, Real.exp (-20000) ≤ q i
  hi : ∀ i, q i ≤ Real.exp 20000

section
variable {W : Fin 64 → Fin 64 → ℝ} {S : Fin 64 → ℝ} {E : ℕ → Fin 64 → ℝ} {tm : ℝ}

theorem Inv.zero (hS : ∀ i, |S i| ≤ 10000) (hE : ∀ i, |E 0 i| ≤ 10000) : Inv W S E tm 0 (fun i => Real.exp (S i + E 0 i)) 0 where
  pos i := Real.exp_pos _
  eq i := by simp [fwd]
  zb := by simp
  lo := ⟨0, Real.exp_le_exp.mpr (by have := abs_le.mp (hS 0); have := abs_le.mp (hE 0); linarith)⟩
  hi i := Real.exp_le_exp.mpr (by have := abs_le.mp (hS i); have := abs_le.mp (hE i); linarith)

variable {t : ℕ} {q : Fin 64 → ℝ} {z : ℤ}

theorem nxt_pos {e : Fin 64 → ℝ} (hq : ∀ i, 0 < q i) (i : Fin 64) : 0 < nxt W tm e q i :=
  mul_pos (sum_pos (fun j _ => mul_pos (hq j) (Real.exp_pos _)) ⟨0, mem_univ _⟩) (Real.exp_pos _)

theorem mx_pos {r : Fin 64 → ℝ} (hr : ∀ i, 0 < r i) : 0 < mx r := lt_of_lt_of_le (hr 0) (le_mx r 0)

/-- The largest weight after a step, on the logarithmic scale. -/
theorem log_bound (h : Inv W S E tm t q z) {e : Fin 64 → ℝ} (he : ∀ i, |e i| ≤ 10000) (hW : ∀ i j, |W i j| ≤ 10000)
    (htm : |tm| ≤ 10000) (hle : ∀ i j, W i j ≤ tm) : |Real.log (mx (nxt W tm e q))| ≤ 50000 := by
  have hpos := mx_pos (nxt_pos (W := W) (tm := tm) (e := e) h.pos)
  rw [abs_le]
  constructor
  · rw [Real.le_log_iff_exp_le hpos]
    obtain ⟨i, hi⟩ := h.lo
    refine le_trans ?_ (le_mx _ 0)
    have h1 : Real.exp (-20000) ≤ Real.exp (W 0 i - tm) := Real.exp_le_exp.mpr (by
      have := abs_le.mp (hW 0 i); have := abs_le.mp htm; linarith)
    have h2 : Real.exp (-10000) ≤ Real.exp (e 0) := Real.exp_le_exp.mpr (by have := abs_le.mp (he 0); linarith)
    have h3 : q i * Real.exp (W 0 i - tm) ≤ ∑ j, q j * Real.exp (W 0 j - tm) :=
      single_le_sum (f := fun j => q j * Real.exp (W 0 j - tm)) (fun j _ => (mul_pos (h.pos j) (Real.exp_pos _)).le) (mem_univ i)
    calc Real.exp (-50000) = Real.exp (-20000) * Real.exp (-20000) * Real.exp (-10000) := by
          rw [← Real.exp_add, ← Real.exp_add]; norm_num
      _ ≤ q i * Real.exp (W 0 i - tm) * Real.exp (e 0) :=
          mul_le_mul (mul_le_mul hi h1 (Real.exp_pos _).le (h.pos i).le) h2 (Real.exp_pos _).le
            (mul_pos (h.pos i) (Real.exp_pos _)).le
      _ ≤ nxt W tm e q 0 := mul_le_mul_of_nonneg_right h3 (Real.exp_pos _).le
  · rw [Real.log_le_iff_le_exp hpos]
    obtain ⟨i, hi⟩ := mx_attained (nxt W tm e q)
    rw [hi]
    have h1 : (∑ j, q j * Real.exp (W i j - tm)) ≤ ∑ _j : Fin 64, Real.exp 20000 * 1 :=
      sum_le_sum fun j _ => mul_le_mul (h.hi j) (by
        rw [← Real.exp_zero]; exact Real.exp_le_exp.mpr (by have := hle i j; linarith)) (Real.exp_pos _).le (Real.exp_pos _).le
    have h2 : Real.exp (e i) ≤ Real.exp 10000 := Real.exp_le_exp.mpr (abs_le.mp (he i)).2
    have h3 : (∑ _j : Fin 64, Real.exp 20000 * 1) = 64 * Real.exp 20000 := by simp
    have h4 : (64 : ℝ) ≤ Real.exp 64 := by have := Real.add_one_le_exp (64 : ℝ); linarith
    calc nxt W tm e q i ≤ (64 * Real.exp 20000) * Real.exp 10000 :=
          mul_le_mul (h1.trans_eq h3) h2 (Real.exp_pos _).le (by positivity)
      _ ≤ (Real.exp 64 * Real.exp 20000) * Real.exp 10000 := by gcongr
      _ = Real.exp 30064 := by rw [← Real.exp_add, ← Real.exp_add]; norm_num
      _ ≤ Real.exp 50000 := Real.exp_le_exp.mpr (by norm_num)

/-- The exponent of a step is small. -/
theorem expo_bound (h : Inv W S E tm t q z) {e : Fin 64 → ℝ} (he : ∀ i, |e i| ≤ 10000) (hW : ∀ i j, |W i j| ≤ 10000)
    (htm : |tm| ≤ 10000) (hle : ∀ i j, W i j ≤ tm) : |expo (nxt W tm e q)| ≤ 100000 := by
  have hL := abs_le.mp (log_bound h he hW htm hle)
  have h2 : (1 / 2 : ℝ) ≤ Real.log 2 := by
    have := Real.one_sub_inv_le_log_of_pos (by norm_num : (0 : ℝ) < 2)
    norm_num at this ⊢; linarith
  have h0 : 0 < (Real.log 2)⁻¹ := inv_pos.mpr (by linarith)
  have h1 : (Real.log 2)⁻¹ ≤ 2 := by
    rw [inv_le_comm₀ (by linarith) (by norm_num)]; linarith
  unfold expo
  rw [abs_le]
  constructor
  · rw [Int.le_floor]; push_cast; nlinarith
  · have : (⌊Real.log (mx (nxt W tm e q)) * (Real.log 2)⁻¹⌋ : ℝ) ≤ 100000 := (Int.floor_le _).trans (by nlinarith)
    exact_mod_cast this

/-- The largest weight divided by two to its exponent lies between one and two. -/
theorem scaled_mx {r : Fin 64 → ℝ} (hr : ∀ i, 0 < r i) : 1 ≤ mx r * 2 ^ (-expo r) ∧ mx r * 2 ^ (-expo r) ≤ 2 := by
  have hM := mx_pos hr
  have h2 : 0 < Real.log 2 := Real.log_pos (by norm_num)
  have e : mx r * 2 ^ (-expo r) = Real.exp (Real.log (mx r) - expo r * Real.log 2) := by
    rw [Real.exp_sub, Real.exp_log hM, mul_comm (expo r : ℝ), Real.exp_mul, Real.exp_log (by norm_num : (0:ℝ) < 2), Real.rpow_intCast, zpow_neg,
      div_eq_mul_inv]
  have hx : Real.log (mx r) = (Real.log (mx r) * (Real.log 2)⁻¹) * Real.log 2 := by field_simp
  have lo : (expo r : ℝ) ≤ Real.log (mx r) * (Real.log 2)⁻¹ := Int.floor_le _
  have hi : Real.log (mx r) * (Real.log 2)⁻¹ < expo r + 1 := Int.lt_floor_add_one _
  rw [e]
  constructor
  · rw [← Real.exp_zero]
    refine Real.exp_le_exp.mpr ?_
    rw [hx]; nlinarith
  · rw [← Real.exp_log (by norm_num : (0:ℝ) < 2)]
    refine Real.exp_le_exp.mpr ?_
    rw [Real.exp_log (by norm_num : (0:ℝ) < 2), hx]; nlinarith

/-- One step keeps the invariant. -/
theorem Inv.next (h : Inv W S E tm t q z) (he : ∀ i, |E (t + 1) i| ≤ 10000) (hW : ∀ i j, |W i j| ≤ 10000)
    (htm : |tm| ≤ 10000) (hle : ∀ i j, W i j ≤ tm) :
    Inv W S E tm (t + 1) (fun i => nxt W tm (E (t + 1)) q i * 2 ^ (-expo (nxt W tm (E (t + 1)) q)))
      (z + expo (nxt W tm (E (t + 1)) q)) where
  pos i := mul_pos (nxt_pos h.pos i) (by positivity)
  eq i := by
    have h2 : (2 : ℝ) ≠ 0 := two_ne_zero
    generalize expo (nxt W tm (E (t + 1)) q) = n
    have hn : (2 : ℝ) ^ (-n) * 2 ^ (z + n) = 2 ^ z := by rw [← zpow_add₀ h2]; congr 1; ring
    have hx : Real.exp (((t + 1 : ℕ) : ℝ) * tm) = Real.exp (t * tm) * Real.exp tm := by
      rw [← Real.exp_add]; push_cast; ring_nf
    have hs : (∑ j, q j * Real.exp (W i j - tm)) * (2 ^ z * (Real.exp (t * tm) * Real.exp tm))
        = ∑ j, fwd W S E t j * Real.exp (W i j) := by
      rw [sum_mul]
      refine sum_congr rfl fun j _ => ?_
      rw [← h.eq j, Real.exp_sub]
      field_simp
    calc nxt W tm (E (t + 1)) q i * 2 ^ (-n) * 2 ^ (z + n) * Real.exp (((t + 1 : ℕ) : ℝ) * tm)
        = nxt W tm (E (t + 1)) q i * (2 ^ (-n) * 2 ^ (z + n)) * Real.exp (((t + 1 : ℕ) : ℝ) * tm) := by ring
      _ = (∑ j, q j * Real.exp (W i j - tm)) * (2 ^ z * (Real.exp (t * tm) * Real.exp tm)) * Real.exp (E (t + 1) i) := by
          rw [hn, hx, nxt]; ring
      _ = fwd W S E (t + 1) i := by rw [hs, fwd]
  zb := by
    have := expo_bound h he hW htm hle
    have := h.zb
    have := abs_add_le z (expo (nxt W tm (E (t + 1)) q))
    push_cast
    linarith
  lo := by
    obtain ⟨i, hi⟩ := mx_attained (nxt W tm (E (t + 1)) q)
    refine ⟨i, ?_⟩
    rw [← hi]
    refine le_trans ?_ (scaled_mx (nxt_pos h.pos)).1
    rw [← Real.exp_zero]; exact Real.exp_le_exp.mpr (by norm_num)
  hi i := by
    have h1 : (2 : ℝ) ≤ Real.exp 20000 := by have := Real.add_one_le_exp (20000 : ℝ); linarith
    refine le_trans (mul_le_mul_of_nonneg_right (le_mx _ i) (by positivity)) ((scaled_mx (nxt_pos h.pos)).2.trans h1)

/-- What the sweep's end reads off: the logarithm of the stopped sum, put back together from its parts. -/
theorem Inv.final (h : Inv W S E tm t q z) (w : Fin 64 → ℝ) (sm : ℝ) (hp : 0 < ∑ i, q i * (w i * Real.exp (-sm))) :
    z * Real.log 2 + t * tm + sm + Real.log (∑ i, q i * (w i * Real.exp (-sm))) = Real.log (∑ i, fwd W S E t i * w i) := by
  have hs : (∑ i, fwd W S E t i * w i) = (∑ i, q i * (w i * Real.exp (-sm))) * (2 ^ z * (Real.exp (t * tm) * Real.exp sm)) := by
    rw [sum_mul]
    refine sum_congr rfl fun j _ => ?_
    rw [← h.eq j, Real.exp_neg]
    field_simp
  rw [hs, Real.log_mul hp.ne' (by positivity), Real.log_mul (by positivity) (by positivity), Real.log_mul (by positivity) (by positivity),
    Real.log_zpow, Real.log_exp, Real.log_exp]
  ring

end

/-- A log-sum-exp shifted by any real is the logarithm of the sum. -/
theorem log_shift (f : Fin 64 → ℝ) (c : ℝ) : Real.log (∑ i, Real.exp (f i - c)) + c = Real.log (∑ i, Real.exp (f i)) := by
  have hp : 0 < ∑ i, Real.exp (f i - c) := sum_pos (fun j _ => Real.exp_pos _) ⟨0, mem_univ _⟩
  have hs : (∑ i, Real.exp (f i)) = (∑ i, Real.exp (f i - c)) * Real.exp c := by
    rw [sum_mul]
    exact sum_congr rfl fun j _ => by rw [← Real.exp_add, sub_add_cancel]
  rw [hs, Real.log_mul hp.ne' (Real.exp_pos _).ne', Real.log_exp]

end Cert.Proof.Weights

end
-- ==== Proof.Stop.lean ====
/-
  Stop scores that need not be finite: a log-sum-exp shifted by its maximum, among the extended reals, is minus infinity where
  a score is plus infinity or all are minus infinity, and elsewhere the logarithm of a sum of reals.
-/
module

public import proofs.«01_k».proof.Proof.Weights

@[expose] public section

noncomputable section

namespace Cert.Proof.Stop

open Finset Cert.Proof.Weights Idealize.ShloMosaic

/-- The largest of 64 extended reals. -/
abbrev top (X : Fin 64 → EReal) : EReal := Finset.fold max (⊥ : EReal) X univ

/-- The weight of a score: its `exp`, which is zero at minus infinity. -/
def wt (x : EReal) : ℝ := (Ideal.exp x).toReal

/-- The weight at minus infinity. -/
theorem wt_bot : wt ⊥ = 0 := by simp [wt]

/-- The weight of a real score. -/
theorem wt_coe (r : ℝ) : wt (r : EReal) = Real.exp r := by simp [wt]

/-- Weights are not negative. -/
theorem wt_nonneg (x : EReal) : 0 ≤ wt x := by
  induction x with
  | bot => rw [wt_bot]
  | top => simp [wt]
  | coe r => rw [wt_coe]; exact (Real.exp_pos r).le

/-- Adding a real multiplies the weight. -/
theorem wt_add (a : ℝ) {x : EReal} (hx : x ≠ ⊤) : wt ((a : EReal) + x) = Real.exp a * wt x := by
  induction x with
  | bot => rw [EReal.add_bot, wt_bot, mul_zero]
  | top => exact absurd rfl hx
  | coe r => rw [← EReal.coe_add, wt_coe, wt_coe, Real.exp_add]

/-- A score's `exp` after a shift by a real. -/
theorem exp_sub (r : ℝ) {x : EReal} (hx : x ≠ ⊤) : Ideal.exp (x - (r : EReal)) = ((wt x * Real.exp (-r) : ℝ) : EReal) := by
  induction x with
  | bot => rw [EReal.bot_sub, Ideal.exp_bot, wt_bot, zero_mul, EReal.coe_zero]
  | top => exact absurd rfl hx
  | coe s => rw [← EReal.coe_sub, Ideal.exp_coe, wt_coe, ← Real.exp_add, sub_eq_add_neg]

/-- A score that is plus infinity is the largest. -/
theorem top_of_top {X : Fin 64 → EReal} (h : ∃ i, X i = ⊤) : top X = ⊤ := by
  obtain ⟨i, hi⟩ := h
  exact top_le_iff.mp (Finset.le_fold_max (c := ⊤) |>.mpr (Or.inr ⟨i, mem_univ i, hi.ge⟩))

/-- Scores all of minus infinity have that as their largest. -/
theorem top_of_bot {X : Fin 64 → EReal} (h : ∀ i, X i = ⊥) : top X = ⊥ :=
  le_bot_iff.mp (Finset.fold_max_le (c := ⊥) |>.mpr ⟨le_rfl, fun i _ => (h i).le⟩)

/-- Otherwise the largest score is a real. -/
theorem top_real {X : Fin 64 → EReal} (h : ∀ i, X i ≠ ⊤) (hne : ∃ i, X i ≠ ⊥) : ∃ r : ℝ, top X = (r : EReal) := by
  have ht : top X ≠ ⊤ := by
    refine ne_of_lt (Finset.fold_max_lt (c := ⊤) |>.mpr ⟨bot_lt_top, fun i _ => lt_top_iff_ne_top.mpr (h i)⟩)
  have hb : top X ≠ ⊥ := by
    obtain ⟨i, hi⟩ := hne
    intro hbot
    have := Finset.fold_max_le (s := univ) (f := X) (b := ⊥) (c := ⊥) |>.mp hbot.le
    exact hi (le_bot_iff.mp (this.2 i (mem_univ i)))
  exact ⟨(top X).toReal, (EReal.coe_toReal ht hb).symm⟩

/-- A sum of positive multiples of weights is positive once a score is above minus infinity. -/
theorem sum_pos_wt {X : Fin 64 → EReal} (h : ∀ i, X i ≠ ⊤) (hne : ∃ i, X i ≠ ⊥) {q : Fin 64 → ℝ} (hq : ∀ i, 0 < q i) {e : ℝ} (he : 0 < e) :
    0 < ∑ i, q i * (wt (X i) * e) := by
  obtain ⟨i, hi⟩ := hne
  have hwi : 0 < wt (X i) := by
    rw [← EReal.coe_toReal (h i) hi, wt_coe]
    exact Real.exp_pos _
  exact sum_pos' (fun j _ => mul_nonneg (hq j).le (mul_nonneg (wt_nonneg _) he.le)) ⟨i, mem_univ i, mul_pos (hq i) (mul_pos hwi he)⟩

/-- The log partition from the last forward weights `f` and the stop scores: the logarithm of the weighted sum, and minus infinity
    where a stop score is plus infinity or all are minus infinity. -/
def stopped (f : Fin 64 → ℝ) (P : Fin 64 → EReal) : EReal :=
  if (∃ i, P i = ⊤) ∨ ∀ i, P i = ⊥ then ⊥ else ((Real.log (∑ i, f i * wt (P i)) : ℝ) : EReal)

/-- Outside the finite case every shifted `exp` is zero. -/
theorem exp_zero {X : Fin 64 → EReal} (h : (∃ i, X i = ⊤) ∨ ∀ i, X i = ⊥) (i : Fin 64) : Ideal.exp (X i - top X) = 0 := by
  rcases h with h | h
  · rw [top_of_top h, sub_eq_add_neg, EReal.neg_top, EReal.add_bot, Ideal.exp_bot]
  · rw [h i, EReal.bot_sub, Ideal.exp_bot]

/-- The logarithm of zero is minus infinity. -/
theorem log_zero : Ideal.log 0 = ⊥ := by rw [← EReal.coe_zero, Ideal.log_coe, if_pos le_rfl]

/-- The kernel's last formula, from weights that satisfy the sweep's invariant. -/
theorem kernel_stop {W : Fin 64 → Fin 64 → ℝ} {S : Fin 64 → ℝ} {E : ℕ → Fin 64 → ℝ} {tm : ℝ} {t : ℕ} {q : Fin 64 → ℝ} {z : ℤ}
    (h : Inv W S E tm t q z) (P : Fin 64 → EReal) :
    ((z * Real.log 2 + t * tm : ℝ) : EReal) + top P + Ideal.log (∑ i, ((q i : ℝ) : EReal) * Ideal.exp (P i - top P))
      = stopped (fwd W S E t) P := by
  unfold stopped
  split_ifs with hc
  · simp only [exp_zero hc, mul_zero, sum_const_zero, log_zero, EReal.add_bot]
  · rw [not_or, not_exists, not_forall] at hc
    obtain ⟨r, hr⟩ := top_real hc.1 hc.2
    have hp := sum_pos_wt hc.1 hc.2 h.pos (Real.exp_pos (-r))
    rw [hr]
    simp only [exp_sub r (hc.1 _), ← EReal.coe_mul, sum_coe]
    rw [Ideal.log_coe, if_neg (not_le.mpr hp), ← EReal.coe_add, ← EReal.coe_add, h.final _ r hp]

/-- The reference's last formula, from the logarithms of positive weights. -/
theorem reference_stop {f : Fin 64 → ℝ} (hf : ∀ i, 0 < f i) (P : Fin 64 → EReal) :
    Ideal.log (∑ i, Ideal.exp (((Real.log (f i) : ℝ) : EReal) + P i - top fun i => ((Real.log (f i) : ℝ) : EReal) + P i))
      + (top fun i => ((Real.log (f i) : ℝ) : EReal) + P i) = stopped f P := by
  have hT : ∀ i, ((Real.log (f i) : ℝ) : EReal) + P i = ⊤ ↔ P i = ⊤ := fun i => by
    induction P i with
    | bot => simp
    | top => simp
    | coe r => rw [← EReal.coe_add]; exact iff_of_false (EReal.coe_ne_top _) (EReal.coe_ne_top _)
  have hB : ∀ i, ((Real.log (f i) : ℝ) : EReal) + P i = ⊥ ↔ P i = ⊥ := fun i => by
    induction P i with
    | bot => simp
    | top => simp
    | coe r => rw [← EReal.coe_add]; exact iff_of_false (EReal.coe_ne_bot _) (EReal.coe_ne_bot _)
  unfold stopped
  split_ifs with hc
  · have hx : (∃ i, ((Real.log (f i) : ℝ) : EReal) + P i = ⊤) ∨ ∀ i, ((Real.log (f i) : ℝ) : EReal) + P i = ⊥ := by
      simpa only [hT, hB] using hc
    simp only [exp_zero hx, sum_const_zero, log_zero, EReal.bot_add]
  · rw [not_or, not_exists, not_forall] at hc
    have h1 : ∀ i, ((Real.log (f i) : ℝ) : EReal) + P i ≠ ⊤ := fun i => (hT i).not.mpr (hc.1 i)
    obtain ⟨r, hr⟩ := top_real h1 (hc.2.imp fun i hi => (hB i).not.mpr hi)
    have hp : 0 < ∑ i, f i * (wt (P i) * Real.exp (-r)) := sum_pos_wt hc.1 hc.2 hf (Real.exp_pos (-r))
    rw [hr]
    simp only [exp_sub r (h1 _), wt_add _ (hc.1 _), Real.exp_log (hf _), sum_coe, mul_assoc]
    have hs : ∑ i, f i * wt (P i) = (∑ i, f i * (wt (P i) * Real.exp (-r))) * Real.exp r := by
      rw [sum_mul]
      refine sum_congr rfl fun j _ => ?_
      rw [Real.exp_neg]
      field_simp
    rw [Ideal.log_coe, if_neg (not_le.mpr hp), ← EReal.coe_add, hs, Real.log_mul hp.ne' (Real.exp_pos r).ne', Real.log_exp]

end Cert.Proof.Stop

end
-- ==== Proof.Sweep.lean ====
/-
  The kernel's payloads over the extended reals: on real inputs a trip of its loop is a step of the renormalised sweep, so a
  grid point keeps the sweep's invariant, and the last point's block is the logarithm of the stopped sum.
-/
module

public import proofs.«01_k».proof.Proof.Read
public import proofs.«01_k».proof.Proof.Weights
public import proofs.«01_k».proof.Proof.Stop

@[expose] public section

set_option maxRecDepth 8192

noncomputable section

namespace Cert.Proof.Sweep

open Cert.KernelIdeal Cert.KernelIdeal.Gen Idealize.ShloMosaic Idealize.ShloMosaic.TcCoe Idealize.SL.Sem
open Cert.Proof.Read Cert.Proof.Weights Cert.Proof.Stop

/-- The reduction's initial word is minus infinity. -/
theorem ninf : Ideal.ofBits FTy.f32 4286578688#32 = ⊥ := by simp [Ideal.ofBits, Ideal.ieee]

theorem log2e_eq : Named.named (F := Ideal) κ "log2e" (φ := .f32) 1069066811#32 = (((Real.log 2)⁻¹ : ℝ) : EReal) := by simp [Named.named, κ]

theorem ln2_eq : Named.named (F := Ideal) κ "ln2" (φ := .f32) 1060205080#32 = ((Real.log 2 : ℝ) : EReal) := by simp [Named.named, κ]

/-- A small integer among the extended reals converts to its word. -/
theorem fptosi_int (n : ℤ) (h : |n| ≤ 100000) : FloatOps.fptosi (F := Ideal) (φ := .f32) 32 ((n : ℝ) : EReal) = BitVec.ofInt 32 n := by
  show Ideal.fptosi 32 _ = _
  unfold Ideal.fptosi
  rw [Ideal.toIntClamped_coe]
  have := abs_le.mp h
  congr 1
  simp only [Int.floor_intCast, Int.ceil_intCast, ite_self]
  norm_num
  omega

section
variable {W : Fin 64 → Fin 64 → ℝ} {v0 : Vec Ideal S64x64 .f32} (hv : ∀ i j, v0 (ix2 i j) = ((W i j : ℝ) : EReal))
include hv

/-- The largest transition score is a real, attained. -/
theorem tmax : ∃ tm : ℝ, k0_pay1 v0 = (tm : EReal) ∧ (∀ i j, W i j ≤ tm) ∧ ∃ i j, tm = W i j := by
  have hne : (Finset.univ : Finset (Fin 64 × Fin 64)).Nonempty := ⟨(0, 0), Finset.mem_univ _⟩
  refine ⟨Finset.univ.sup' hne fun x : Fin 64 × Fin 64 => W x.1 x.2, ?_, fun i j => Finset.le_sup' (fun x : Fin 64 × Fin 64 => W x.1 x.2) (Finset.mem_univ (i, j)), ?_⟩
  · pointwise [k0_pay1]
    rw [ninf]
    apply le_antisymm
    · rw [Finset.fold_max_le]
      refine ⟨bot_le, fun x _ => ?_⟩
      rw [hv]
      exact EReal.coe_le_coe_iff.mpr (Finset.le_sup' (fun x : Fin 64 × Fin 64 => W x.1 x.2) (Finset.mem_univ x))
    · obtain ⟨x, -, hx⟩ := Finset.exists_mem_eq_sup' hne fun x : Fin 64 × Fin 64 => W x.1 x.2
      rw [Finset.le_fold_max]
      exact Or.inr ⟨x, Finset.mem_univ x, by rw [hx, hv]⟩
  · obtain ⟨x, -, hx⟩ := Finset.exists_mem_eq_sup' hne fun x : Fin 64 × Fin 64 => W x.1 x.2
    exact ⟨x.1, x.2, hx⟩

variable {tm : ℝ} (ht : k0_pay1 v0 = (tm : EReal))
include ht

/-- The shifted transition weights. -/
theorem pay2_real (i j : Fin 64) : k0_pay2 v0 (ix2 i j) = ((Real.exp (W i j - tm) : ℝ) : EReal) := by
  pointwise [k0_pay2]
  rw [ht, hv, ← EReal.coe_sub, Ideal.exp_coe]

variable {a : St Ideal} {e : Vec Ideal S1x16x64 .f32} {b : Fin 16} {x p : Fin 64 → ℝ} {s : ℝ}
  (hx : ∀ i, e (ix3 0 b i) = ((x i : ℝ) : EReal)) (hp : ∀ i, a.1 (ix2 b i) = ((p i : ℝ) : EReal)) (hs : a.2.1 (ix2 b 0) = ((s : ℝ) : EReal))
include hx hp hs

/-- The weights a trip yields: a step of the sweep on the scaled weights. -/
theorem pay6_real (i : Fin 64) : k0_pay6 v0 a.1 a.2.1 e (ix2 b i) = ((nxt W tm x (fun j => p j * s) i : ℝ) : EReal) := by
  pointwise [k0_pay6]
  simp only [pay2_real hv ht, hp, hx, hs, Ideal.exp_coe, ← EReal.coe_mul, sum_coe]
  rw [EReal.coe_eq_coe_iff]
  unfold nxt
  rw [Finset.sum_mul, Finset.sum_mul]
  exact Finset.sum_congr rfl fun j _ => by ring

variable (hpos : ∀ i, 0 < p i * s)
include hpos

/-- The exponent a trip takes off. -/
theorem pay7_real : k0_pay7 v0 a.1 a.2.1 e (ix2 b 0) = (((expo (nxt W tm x fun j => p j * s) : ℤ) : ℝ) : EReal) := by
  pointwise [k0_pay7]
  simp only [pay6_real hv ht hx hp hs, ninf, fold_max, log2e_eq]
  rw [Ideal.log_coe, if_neg (not_le.mpr (mx_pos (nxt_pos hpos))), ← EReal.coe_mul, Ideal.liftRound_coe]
  rfl

/-- The scale a trip yields. -/
theorem pay8_real : k0_pay8 v0 a.1 a.2.1 e (ix2 b 0) = (((2 : ℝ) ^ (-expo (nxt W tm x fun j => p j * s)) : ℝ) : EReal) := by
  pointwise [k0_pay8]
  rw [pay7_real hv ht hx hp hs hpos, zero_sub, ← EReal.coe_neg]
  show Ideal.exp2 _ = _
  rw [Ideal.exp2_coe, ← Int.cast_neg, EReal.coe_eq_coe_iff]
  exact Real.rpow_intCast 2 _

end

/-- What a loop carries for batch element `b` after `t` steps of the sweep. -/
def StInv (W : Fin 64 → Fin 64 → ℝ) (S : Fin 64 → ℝ) (E : ℕ → Fin 64 → ℝ) (tm : ℝ) (t : ℕ) (b : Fin 16) (a : St Ideal) : Prop :=
  ∃ (p : Fin 64 → ℝ) (s : ℝ) (z : ℤ), (∀ i, a.1 (ix2 b i) = ((p i : ℝ) : EReal)) ∧ a.2.1 (ix2 b 0) = ((s : ℝ) : EReal)
    ∧ a.2.2 (ix2 b 0) = BitVec.ofInt 32 z ∧ Inv W S E tm t (fun i => p i * s) z

section
variable {W : Fin 64 → Fin 64 → ℝ} {S : Fin 64 → ℝ} {E : ℕ → Fin 64 → ℝ} {tm : ℝ} {b : Fin 16} {v0 : Vec Ideal S64x64 .f32}
  (hv : ∀ i j, v0 (ix2 i j) = ((W i j : ℝ) : EReal)) (ht : k0_pay1 v0 = (tm : EReal))
  (hW : ∀ i j, |W i j| ≤ 10000) (htm : |tm| ≤ 10000) (hle : ∀ i j, W i j ≤ tm)

include hv ht hW htm hle in
/-- A trip is one step. -/
theorem StInv.step {t : ℕ} {a : St Ideal} (h : StInv W S E tm t b a) {e : Vec Ideal S1x16x64 .f32}
    (hx : ∀ i, e (ix3 0 b i) = ((E (t + 1) i : ℝ) : EReal)) (he : ∀ i, |E (t + 1) i| ≤ 10000) :
    StInv W S E tm (t + 1) b (step v0 e a) := by
  obtain ⟨p, s, z, hp, hs, hz, hI⟩ := h
  refine ⟨_, _, _, pay6_real hv ht hx hp hs, pay8_real hv ht hx hp hs hI.pos, ?_, hI.next he hW htm hle⟩
  show k0_pay9 v0 a.1 a.2.1 a.2.2 e (ix2 b 0) = _
  pointwise [k0_pay9]
  rw [pay7_real hv ht hx hp hs hI.pos, fptosi_int _ (expo_bound hI he hW htm hle), hz, BitVec.ofInt_add]
  rfl

include hv ht hW htm hle in
/-- Trips over rows of a staged block are steps of the sweep. -/
theorem StInv.chunk {t : ℕ} {x : Vec Ideal S512x16x64 .f32} {lo : ℕ} {init : St Ideal} (h : StInv W S E tm t b init) : ∀ n : ℕ,
    (∀ k, k < n → (∀ i, emRow x (lo + k) (ix3 0 b i) = ((E (t + k + 1) i : ℝ) : EReal)) ∧ ∀ i, |E (t + k + 1) i| ≤ 10000) →
    StInv W S E tm (t + n) b (chunk v0 x lo init n)
  | 0, _ => h
  | n + 1, hn => (StInv.chunk h n fun k hk => hn k (hk.trans (Nat.lt_succ_self n))).step hv ht hW htm hle
      (hn n (Nat.lt_succ_self n)).1 (hn n (Nat.lt_succ_self n)).2

/-- The first point's start. -/
theorem StInv.init {x1 : Vec Ideal S1x64 .f32} {e : Vec Ideal S1x16x64 .f32} (h1 : ∀ i, x1 (ix2 0 i) = ((S i : ℝ) : EReal))
    (hx : ∀ i, e (ix3 0 b i) = ((E 0 i : ℝ) : EReal)) (hS : ∀ i, |S i| ≤ 10000) (hE : ∀ i, |E 0 i| ≤ 10000) :
    StInv W S E tm 0 b (k0_pay3 x1 e, k0_pay5, k0_pay4) := by
  refine ⟨fun i => Real.exp (S i + E 0 i), 1, 0, fun i => ?_, ?_, ?_, ?_⟩
  · show k0_pay3 x1 e (ix2 b i) = _
    pointwise [k0_pay3]
    rw [h1, hx, ← EReal.coe_add, Ideal.exp_coe]
  · show k0_pay5 (F := Ideal) (ix2 b 0) = _
    pointwise [k0_pay5]
    rfl
  · show k0_pay4 (ix2 b 0) = _
    pointwise [k0_pay4]
    rfl
  · simpa using Inv.zero (W := W) (tm := tm) hS hE

/-- The carry at a point's end, its last scale applied, starts the next point. -/
theorem StInv.carry {t : ℕ} {a : St Ideal} (h : StInv W S E tm t b a) :
    StInv W S E tm t b (k0_pay17 a.1 a.2.1, k0_pay12, k0_pay18 (F := Ideal) a.2.2) := by
  obtain ⟨p, s, z, hp, hs, hz, hI⟩ := h
  refine ⟨fun i => p i * s, 1, z, fun i => ?_, ?_, ?_, ?_⟩
  · show k0_pay17 a.1 a.2.1 (ix2 b i) = _
    pointwise [k0_pay17]
    rw [hp, hs, ← EReal.coe_mul]
  · show k0_pay12 (F := Ideal) (ix2 b 0) = _
    pointwise [k0_pay12]
    rfl
  · show k0_pay18 (F := Ideal) a.2.2 (ix2 b 0) = _
    pointwise [k0_pay18]
    exact hz
  · simpa using hI

include ht in
/-- The block the last point stores, from the carry at its end. -/
theorem final_real {a : St Ideal} (h : StInv W S E tm 4095 b a) {P : Fin 64 → EReal} {x2 : Vec Ideal S1x64 .f32}
    (h2 : ∀ i, x2 (ix2 0 i) = P i) :
    k0_pay19 v0 x2 (k0_pay17 a.1 a.2.1) (k0_pay18 (F := Ideal) a.2.2) (ix2 0 b)
      = stopped (fwd W S E 4095) P := by
  obtain ⟨p, s, z, hp, hs, hz, hI⟩ := h
  have e17 : ∀ i, k0_pay17 a.1 a.2.1 (ix2 b i) = ((p i * s : ℝ) : EReal) := fun i => by
    pointwise [k0_pay17]
    rw [hp, hs, ← EReal.coe_mul]
  have e18 : k0_pay18 (F := Ideal) a.2.2 (ix2 b 0) = BitVec.ofInt 32 z := by
    pointwise [k0_pay18]
    exact hz
  have ez : (BitVec.ofInt 32 z).toInt = z := by
    have := abs_le.mp hI.zb
    push_cast at this
    rw [BitVec.toInt_ofInt, Int.bmod_eq_of_le] <;> omega
  have e4095 : Ideal.ofBits FTy.f32 1166012416#32 = ((4095 : ℝ) : EReal) := by
    simp [Ideal.ofBits, Ideal.ieee, -EReal.coe_mul]; norm_num
  have hfin := kernel_stop hI P
  pointwise [k0_pay19]
  simp only [e17, e18, h2, ninf, ln2_eq, ht, e4095]
  show ((((BitVec.ofInt 32 z).toInt : ℝ) : EReal) * _ + _ + _ + _ = _)
  rw [ez, ← hfin, EReal.coe_add, EReal.coe_mul, EReal.coe_mul]
  rfl

end

end Cert.Proof.Sweep

end
-- ==== Proof.KernelValue.lean ====
/-
  The kernel over the extended reals: on real inputs the carried state keeps the sweep's invariant across the grid, and the
  result is the log partition.
-/
module

public import proofs.«01_k».proof.Proof.Blocks
public import proofs.«01_k».proof.Proof.Sweep

@[expose] public section

set_option maxRecDepth 8192

noncomputable section

namespace Cert.Proof.KernelValue

open Cert.KernelIdeal Cert.KernelIdeal.Gen Idealize.ShloMosaic Idealize.ShloMosaic.TcCoe Idealize.SL.Sem
open Cert.Proof.Read Cert.Proof.Weights Cert.Proof.Stop Cert.Proof.Blocks Cert.Proof.Sweep

variable (m : (ℓ : Loc nD τ sig) → Buf (Elt Ideal) ℓ) (c : Dev nD)
variable {W : Fin 64 → Fin 64 → ℝ} {S : Fin 64 → ℝ} {P : Fin 64 → EReal} {E : ℕ → Fin 64 → ℝ} {b : Fin 16}

/-- A row of a staged emission block, on real emissions. -/
theorem row_real (hE : ∀ (t : Fin 4096) i, m ((c : Thread nD τ).loc main_arg0) (ix3 t b i) = ((E t.val i : ℝ) : EReal))
    (t : Fin cfg0.N) (k : ℕ) (hk : k < 512) (i : Fin 64) :
    emRow (iblk m c 0 t) k (ix3 0 b i) = ((E (512 * t.val + k) i : ℝ) : EReal) := by
  show iblk m c 0 t (ix3 ⟨k % 512, _⟩ b i) = _
  rw [em_apply, hE]
  simp only [Nat.mod_eq_of_lt hk]

section
variable (hE : ∀ (t : Fin 4096) i, m ((c : Thread nD τ).loc main_arg0) (ix3 t b i) = ((E t.val i : ℝ) : EReal))
  (hS : ∀ i, m ((c : Thread nD τ).loc main_arg1) (ix1 i) = ((S i : ℝ) : EReal))
  (hP : ∀ i, m ((c : Thread nD τ).loc main_arg2) (ix1 i) = P i)
  (hW : ∀ i j, m ((c : Thread nD τ).loc main_arg3) (ix2 i j) = ((W i j : ℝ) : EReal))
  (bE : ∀ t, t < 4096 → ∀ i, |E t i| ≤ 10000) (bS : ∀ i, |S i| ≤ 10000) (bW : ∀ i j, |W i j| ≤ 10000)

include hW in
/-- Every point stages the transitions. -/
theorem trans_real (t : Fin cfg0.N) (i j : Fin 64) : iblk m c 3 t (ix2 i j) = ((W i j : ℝ) : EReal) := by
  rw [trans_apply, hW]

variable {tm : ℝ} (hle : ∀ i j, W i j ≤ tm) (hat : ∃ i j, tm = W i j)

include hW hle hat in
/-- Every point finds the same largest transition score. -/
theorem tm_at (t : Fin cfg0.N) : k0_pay1 (iblk m c 3 t) = (tm : EReal) := by
  obtain ⟨tm', h, hle', i', j', hat'⟩ := tmax (v0 := iblk m c 3 t) (trans_real m c hW t)
  obtain ⟨i, j, hat⟩ := hat
  have : tm' = tm := le_antisymm (hat' ▸ hle i' j') (hat ▸ hle' i j)
  rw [h, this]

include bW hat in
theorem tm_bound : |tm| ≤ 10000 := by
  obtain ⟨i, j, rfl⟩ := hat
  exact bW i j

include hE hS hW bE bS bW hle hat

/-- After the first point: 511 steps of the sweep. -/
theorem inv_first (h : 0 < cfg0.N) :
    StInv W S E tm 511 b ((outsAt0 m c 0 h).2.1, k0_pay12, (outsAt0 m c 0 h).2.2) := by
  rw [weights_first, exps_first]
  have h0 := StInv.init (W := W) (tm := tm) (b := b) (E := E) (S := S) (x1 := iblk m c 1 ⟨0, h⟩) (e := emRow (iblk m c 0 ⟨0, h⟩) 0)
    (fun i => by rw [start_apply, hS]) (fun i => row_real m c hE ⟨0, h⟩ 0 (by omega) i) bS (bE 0 (by omega))
  have h1 := StInv.chunk (x := iblk m c 0 ⟨0, h⟩) (lo := 1) (trans_real m c hW ⟨0, h⟩) (tm_at m c hW hle hat ⟨0, h⟩) bW (tm_bound bW hat) hle h0 511
    (fun k hk => ⟨fun i => by
      rw [row_real m c hE ⟨0, h⟩ (1 + k) (by omega) i]
      simp only [Nat.mul_zero, Nat.zero_add, Nat.add_comm 1 k], bE _ (by omega)⟩)
  exact StInv.carry h1

/-- A later point's loop: 512 steps more. -/
theorem inv_loop (n : ℕ) (h : n + 1 < cfg0.N) (hn : n + 1 < 8)
    (h0 : StInv W S E tm (512 * n + 511) b ((outsAt0 m c n (Nat.lt_of_succ_lt h)).2.1, k0_pay12, (outsAt0 m c n (Nat.lt_of_succ_lt h)).2.2)) :
    StInv W S E tm (512 * (n + 1) + 511) b (laterAt m c n h) := by
  have h1 := StInv.chunk (x := iblk m c 0 ⟨n + 1, h⟩) (lo := 0) (trans_real m c hW ⟨n + 1, h⟩) (tm_at m c hW hle hat ⟨n + 1, h⟩) bW (tm_bound bW hat) hle h0 512
    (fun k hk => ⟨fun i => by
      rw [row_real m c hE ⟨n + 1, h⟩ (0 + k) (by omega) i]
      rw [show 512 * n + 511 + k + 1 = 512 * (n + 1) + (0 + k) by omega], bE _ (by omega)⟩)
  rw [show 512 * n + 511 + 512 = 512 * (n + 1) + 511 by omega] at h1
  exact h1

/-- After point `n`, before the last: `512 n + 511` steps of the sweep. -/
theorem inv_at (n : ℕ) (h : n < cfg0.N) (hn : n < 7) :
    StInv W S E tm (512 * n + 511) b ((outsAt0 m c n h).2.1, k0_pay12, (outsAt0 m c n h).2.2) := by
  induction n with
  | zero => exact inv_first m c hE hS hW bE bS bW hle hat h
  | succ n ih =>
    rw [weights_later m c n h hn, exps_later m c n h hn]
    exact StInv.carry (inv_loop m c hE hS hW bE bS bW hle hat n h (by omega) (ih _ (by omega)))

end

/-- The kernel's result on real inputs of bounded size and any stop scores: the log partition from the last forward
    weights and the stop scores. -/
theorem value (hE : ∀ (t : Fin 4096) i, m ((c : Thread nD τ).loc main_arg0) (ix3 t b i) = ((E t.val i : ℝ) : EReal))
    (hS : ∀ i, m ((c : Thread nD τ).loc main_arg1) (ix1 i) = ((S i : ℝ) : EReal))
    (hP : ∀ i, m ((c : Thread nD τ).loc main_arg2) (ix1 i) = P i)
    (hW : ∀ i j, m ((c : Thread nD τ).loc main_arg3) (ix2 i j) = ((W i j : ℝ) : EReal))
    (bE : ∀ t, t < 4096 → ∀ i, |E t i| ≤ 10000) (bS : ∀ i, |S i| ≤ 10000) (bW : ∀ i j, |W i j| ≤ 10000) :
    Value.G4 m c (ix2 0 b) = stopped (fwd W S E 4095) P := by
  have hN : cfg0.N = 8 := N_0
  obtain ⟨tm, -, hle, hat⟩ := tmax (v0 := iblk m c 3 ⟨0, by omega⟩) (trans_real m c hW _)
  have h : 6 + 1 < cfg0.N := by omega
  rw [result_eq m c h]
  have hl := inv_loop m c hE hS hW bE bS bW hle hat 6 h (by omega) (inv_at m c hE hS hW bE bS bW hle hat 6 _ (by omega))
  exact final_real (tm_at m c hW hle hat _) hl (fun i => by rw [stop_apply, hP])

end Cert.Proof.KernelValue

end
-- ==== Proof.RefValue.lean ====
/-
  The reference over the extended reals: on real inputs its loop keeps the logarithms of the forward weights, and its result is
  the log partition.
-/
module

public import proofs.«01_k».proof.Proof.Stop
public import proofs.«01_k».proof.Proof.Gen.ReferenceIdeal.Run
public import Idealize.ShloMosaic.Lib.Pointwise
public import Idealize.ShloMosaic.Lib.DynamicIndex
public import Idealize.ShloMosaic.Lib.StableHlo.ReadAt
public import Idealize.ShloMosaic.Lib.Tactic.CleanTypes

@[expose] public section

set_option maxRecDepth 8192

noncomputable section

namespace Cert.Proof.RefValue

open Cert.ReferenceIdeal Cert.ReferenceIdeal.Gen Idealize.ShloMosaic Idealize.ShloMosaic.TcCoe Idealize.SL.Sem Cert.ReferenceIdeal.Value
open Idealize.ShloMosaic.StableHlo
open Cert.Proof.Weights Cert.Proof.Stop

/-- The reductions' initial word is minus infinity. -/
theorem ninf : Ideal.ofBits FTy.f32 4286578688#32 = ⊥ := by simp [Ideal.ofBits, Ideal.ieee]

/-- The reference's shifted log-sum-exp of reals is the log-sum-exp. -/
theorem lse (f : Fin 64 → ℝ) :
    Ideal.log (∑ x, Ideal.exp (((f x : ℝ) : EReal) - ((mx f : ℝ) : EReal))) + ((mx f : ℝ) : EReal)
      = ((Real.log (∑ i, Real.exp (f i)) : ℝ) : EReal) := by
  have hsum : 0 < ∑ i, Real.exp (f i - mx f) := Finset.sum_pos (fun j _ => Real.exp_pos _) ⟨0, Finset.mem_univ _⟩
  simp only [← EReal.coe_sub, Ideal.exp_coe, sum_coe]
  rw [Ideal.log_coe, if_neg (not_le.mpr hsum), ← EReal.coe_add, log_shift]

/-- The loop's next value, at real operands and a counter below the trip count. -/
theorem step_value (V0 : Valuation τ sig (Elt Ideal)) (b : Fin 16) (k : ℕ) (hk : k < 4095) (A e : Fin 64 → ℝ) (W : Fin 64 → Fin 64 → ℝ)
    (hctr : V0 (Proc.devRef .tc main_v6_2) = fun _ => BitVec.ofNat 32 k)
    (hA : ∀ i, V0 (Proc.devRef .tc main_v6_3) (ix2 b i) = ((A i : ℝ) : EReal))
    (hW : ∀ i j, V0 (Proc.devRef .tc main_v6_1) (ix2 i j) = ((W i j : ℝ) : EReal))
    (he : ∀ i, V0 (Proc.devRef .tc main_v6_0) (ix3 ⟨k, hk⟩ b i) = ((e i : ℝ) : EReal)) (i : Fin 64) :
    step_main_v6_3 V0 (ix2 b i) = ((Real.log (∑ j, Real.exp (A j + W i j)) + e i : ℝ) : EReal) := by
  unfold step_main_v6_3 res_main_while0b_v25 res_main_while0b_v24
  dsimp only [id]
  clean_types
  pointwise
  simp only [hA, hW, ← EReal.coe_add, ninf, fold_max, lse]
  rw [EReal.coe_add, ← he i]
  have hk' : (BitVec.ofNat 32 k).toInt = k := by
    rw [BitVec.toInt_eq_toNat_of_lt (by simp only [BitVec.toNat_ofNat]; omega), BitVec.toNat_ofNat]
    omega
  have hix : ∀ (p q r : ℕ) (hp : p < 4095) (hq : q < 16) (hr : r < 64), p = k → q = b.val → r = i.val →
      (ix3 ⟨p, hp⟩ ⟨q, hq⟩ ⟨r, hr⟩ : S4095x16x64.Idx) = ix3 ⟨k, hk⟩ b i := by
    intro p q r hp hq hr h1 h2 h3
    subst h1 h2 h3
    rfl
  refine congrArg₂ (· + ·) rfl (congrArg (V0 (Proc.devRef .tc main_v6_0)) (hix _ _ _ _ _ _ ?_ ?_ ?_))
  · refine Host.clampedStart_of_le _ _ 0 k ?_ ?_
    · refine Eq.trans ?_ hk'
      exact congrArg BitVec.toInt (congrFun hctr _)
    · show k + 1 ≤ 4095
      omega
  · rw [Host.clampedStart_of_le _ _ 1 0 rfl (by show 0 + 16 ≤ 16; omega), Nat.zero_add]
  · rw [Host.clampedStart_of_le _ _ 2 0 rfl (by show 0 + 64 ≤ 64; omega), Nat.zero_add]

/-- The result from the loop's last carried value. -/
theorem out_value (V0 : Valuation τ sig (Elt Ideal)) (b : Fin 16) (f : Fin 64 → ℝ) (hf : ∀ i, 0 < f i) (P : Fin 64 → EReal)
    (hA : ∀ i, V0 (Proc.devRef .tc main_v6_3) (ix2 b i) = ((Real.log (f i) : ℝ) : EReal))
    (hP : ∀ i, V0 (Proc.devRef .tc main_arg2) (ix1 i) = P i) :
    out_main_v18 V0 (ix2 0 b) = stopped f P := by
  unfold out_main_v18
  clean_types
  pointwise
  simp only [hA, hP, ninf]
  exact reference_stop hf P

variable (m : (ℓ : Loc nD τ sig) → Buf (Elt Ideal) ℓ) (c : Dev nD)

/-- At entry the carried emissions are those after the first row. -/
theorem entry0 (t : Fin 4095) (b : Fin 16) (i : Fin 64) :
    (entryContents preI m c) (Proc.devRef .tc main_v6_0) (ix3 t b i)
      = m ((c.tc : Thread nD τ).loc main_arg0) (ix3 ⟨1 + t.val, by omega⟩ b i) := by
  simp only [entryContents, afterL_cons, afterL_nil]
  after_reads_at
  dsimp only [id]
  clean_types
  pointwise

/-- At entry the carried transitions are the argument. -/
theorem entry1 (i j : Fin 64) :
    (entryContents preI m c) (Proc.devRef .tc main_v6_1) (ix2 i j) = m ((c.tc : Thread nD τ).loc main_arg3) (ix2 i j) := by
  simp only [entryContents, afterL_cons, afterL_nil]
  after_reads_at
  rfl

/-- At entry the carried values are the start scores plus the first emissions. -/
theorem entry3 (b : Fin 16) (i : Fin 64) (s e : ℝ) (hs : m ((c.tc : Thread nD τ).loc main_arg1) (ix1 i) = ((s : ℝ) : EReal))
    (he : m ((c.tc : Thread nD τ).loc main_arg0) (ix3 0 b i) = ((e : ℝ) : EReal)) :
    (entryContents preI m c) (Proc.devRef .tc main_v6_3) (ix2 b i) = ((s + e : ℝ) : EReal) := by
  simp only [entryContents, afterL_cons, afterL_nil]
  after_reads_at
  dsimp only [id]
  clean_types
  pointwise
  rw [EReal.coe_add, ← hs, ← he]

section
variable {W : Fin 64 → Fin 64 → ℝ} {S : Fin 64 → ℝ} {P : Fin 64 → EReal} {E : ℕ → Fin 64 → ℝ} {b : Fin 16}
  (hE : ∀ (t : Fin 4096) i, m ((c.tc : Thread nD τ).loc main_arg0) (ix3 t b i) = ((E t.val i : ℝ) : EReal))
  (hS : ∀ i, m ((c.tc : Thread nD τ).loc main_arg1) (ix1 i) = ((S i : ℝ) : EReal))
  (hP : ∀ i, m ((c.tc : Thread nD τ).loc main_arg2) (ix1 i) = P i)
  (hW : ∀ i j, m ((c.tc : Thread nD τ).loc main_arg3) (ix2 i j) = ((W i j : ℝ) : EReal))
include hE hS hP hW

/-- Before trip `k` the carried buffers: the emissions and the transitions as at entry, the counter at `k`, the logarithms of the
    forward weights at step `k`. -/
theorem iter_value (k : ℕ) (hk : k ≤ 4095) :
    (STEP^[k] (entryContents preI m c)) (Proc.devRef .tc main_v6_0) = (entryContents preI m c) (Proc.devRef .tc main_v6_0)
    ∧ (STEP^[k] (entryContents preI m c)) (Proc.devRef .tc main_v6_1) = (entryContents preI m c) (Proc.devRef .tc main_v6_1)
    ∧ (STEP^[k] (entryContents preI m c)) (Proc.devRef .tc main_v6_2) = (fun _ => BitVec.ofNat 32 k)
    ∧ ∀ i, (STEP^[k] (entryContents preI m c)) (Proc.devRef .tc main_v6_3) (ix2 b i) = ((Real.log (fwd W S E k i) : ℝ) : EReal) := by
  induction k with
  | zero =>
    refine ⟨rfl, rfl, ctr_entry m c, fun i => ?_⟩
    rw [Function.iterate_zero, id_eq, entry3 m c b i (S i) (E 0 i) (hS i) (hE 0 i)]
    simp only [fwd, Real.log_exp]
  | succ k ih =>
    obtain ⟨i0, i1, i2, i3⟩ := ih (by omega)
    simp only [Function.iterate_succ_apply']
    refine ⟨by rw [STEP_main_v6_0, i0], by rw [STEP_main_v6_1, i1], ?_, fun i => ?_⟩
    · rw [STEP_main_v6_2]
      unfold step_main_v6_2
      rw [i2]
      funext x
      show BitVec.ofNat 32 k + 1#32 = _
      rw [BitVec.ofNat_add]
    · rw [STEP_main_v6_3, step_value _ b k (by omega) (fun j => Real.log (fwd W S E k j)) (E (k + 1)) W i2 i3
        (fun i j => by rw [i1, entry1, hW]) (fun i => by rw [i0, entry0, hE]; simp only [Nat.add_comm 1 k])]
      rw [EReal.coe_eq_coe_iff]
      have hpos : 0 < ∑ j, fwd W S E k j * Real.exp (W i j) :=
        Finset.sum_pos (fun j _ => mul_pos (fwd_pos W S E k j) (Real.exp_pos _)) ⟨0, Finset.mem_univ _⟩
      simp only [Real.exp_add, Real.exp_log (fwd_pos W S E k _), fwd]
      rw [Real.log_mul hpos.ne' (Real.exp_pos _).ne', Real.log_exp]

/-- The reference's result on real inputs and any stop scores: the log partition from the last forward weights and the stop
    scores. -/
theorem value : out_main_v18 (STEP^[4095] (entryContents preI m c)) (ix2 0 b)
    = stopped (fwd W S E 4095) P := by
  obtain ⟨-, -, -, h⟩ := iter_value m c hE hS hP hW 4095 le_rfl
  exact out_value _ b _ (fwd_pos W S E 4095) P h (fun i => by rw [iter_main_arg2, hP])

end

end Cert.Proof.RefValue

end
-- ==== Proof.Bounded.lean ====
/-
  The precondition read back: the emissions, start scores and transitions are reals of size at most 10000.
-/
module

public import proofs.«01_k».proof.Proof.Gen.Pre_bounded
public import proofs.«01_k».proof.Defs
public import Idealize.ShloMosaic.Lib.Pointwise
public import Idealize.ShloMosaic.Lib.ReduceAll

@[expose] public section

set_option maxRecDepth 8192

noncomputable section

namespace Cert.Proof.Bounded

open Cert.Pre_bounded Idealize.ShloMosaic

/-- The precondition's bound is 10000. -/
theorem word_bound : Ideal.ofBits FTy.f32 0x461C4000#32 = ((10000 : ℝ) : EReal) := by
  simp [Ideal.ofBits, Ideal.ieee, -EReal.coe_mul]; norm_num

/-- An extended real whose absolute value is at most the bound is a real of that size. -/
theorem of_ole (x : EReal) (h : Ideal.cmp .ole (max x (-x)) (Ideal.ofBits FTy.f32 0x461C4000#32) = 1) :
    x = ((x.toReal : ℝ) : EReal) ∧ |x.toReal| ≤ 10000 := by
  rw [Ideal.cmp_ole_eq_one, word_bound, max_le_iff] at h
  obtain ⟨h1, h2⟩ := h
  induction x with
  | bot => exact absurd h2 (by simp [EReal.coe_ne_top])
  | top => exact absurd h1 (by simp [EReal.coe_ne_top])
  | coe r =>
    rw [← EReal.coe_neg] at h2
    rw [EReal.toReal_coe]
    exact ⟨rfl, abs_le.mpr ⟨by linarith [EReal.coe_le_coe_iff.mp h2], EReal.coe_le_coe_iff.mp h1⟩⟩

/-- Every element of the arguments, from the precondition. -/
theorem elems [Facts] (a0 : FVec Ideal S4096x16x64 .f32) (a1 a2 : FVec Ideal S64 .f32) (a3 : FVec Ideal S64x64 .f32)
    (h : Cert.Pre_bounded.fn (F := Ideal) a0 a1 a2 a3 = fun _ => 1#1) :
    (∀ i, a0 i = (((a0 i : EReal).toReal : ℝ) : EReal) ∧ |(a0 i : EReal).toReal| ≤ 10000)
    ∧ (∀ i, a1 i = (((a1 i : EReal).toReal : ℝ) : EReal) ∧ |(a1 i : EReal).toReal| ≤ 10000)
    ∧ (∀ i, a3 i = (((a3 i : EReal).toReal : ℝ) : EReal) ∧ |(a3 i : EReal).toReal| ≤ 10000) := by
  have h := congrFun h ix0
  dsimp only [fn] at h
  obtain ⟨h, h3⟩ := IntOp.andi_eq_one.mp h
  obtain ⟨h0, h1⟩ := IntOp.andi_eq_one.mp h
  exact ⟨fun i => of_ole _ (Host.reduce_andi_all _ _ _ _ _ h0 i), fun i => of_ole _ (Host.reduce_andi_all _ _ _ _ _ h1 i),
    fun i => of_ole _ (Host.reduce_andi_all _ _ _ _ _ h3 i)⟩

end Cert.Proof.Bounded

end
-- ==== Proof.lean ====
/-
  The claim: the kernel and its forms over the extended reals keep their frames, the named constants are the rounded ones, and
  the kernel and the reference return the same array on every input that the precondition admits.
-/
module

public import proofs.«01_k».proof.Proof.Gen.KernelIdeal.Value
public import proofs.«01_k».proof.Proof.Gen.ReferenceIdeal.Run
public import proofs.«01_k».proof.Defs
public import proofs.«01_k».proof.Proof.KernelValue
public import proofs.«01_k».proof.Proof.RefValue
public import proofs.«01_k».proof.Proof.Bounded
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_bounded
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel as written terminates, leaves its arguments unchanged and every counter at zero. -/
theorem frame_p : Cert.quiescent_Kernel (hKernel := Cert.Kernel.Gen.facts) :=
  fun m ρ _ => Cert.Kernel.Gen.frame m ρ

/-- The kernel over the extended reals terminates, leaves its arguments unchanged and every counter at zero. -/
theorem frame_pi : Cert.quiescent_KernelIdeal (hKernelIdeal := Cert.KernelIdeal.Gen.facts) :=
  fun m ρ _ => Cert.KernelIdeal.Gen.frame m ρ

/-- The reference over the extended reals terminates, leaves its arguments unchanged and every counter at zero. -/
theorem frame_ri : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩)
    (Cert.ReferenceIdeal.Value.run (F := Ideal) m ρ)

/-- The two constants the ideal kernel names are the rounded `1/ln 2` and `ln 2` of the kernel as written. -/
theorem preserves : Cert.preserves_Kernel_KernelIdeal :=
  ⟨IdealRules.named_const.statement _ _ _ _ _ rfl, IdealRules.named_const.statement _ _ _ _ _ rfl⟩

/-- On every input that the precondition admits the kernel and the reference return the same array: at each batch element the
    log partition from the last forward weights and the stop scores. -/
theorem algebraic : Cert.algebraic_KernelIdeal_ReferenceIdeal_pre_bounded (hKernelIdeal := Cert.KernelIdeal.Gen.facts)
    (hReferenceIdeal := Cert.ReferenceIdeal.Gen.facts) (hPre_bounded := Cert.Pre_bounded.Gen.facts) := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩) (Cert.ReferenceIdeal.Value.run (F := Ideal) m' ρ')
  haveI := Cert.Pre_bounded.Gen.facts
  obtain ⟨g0, g1, g2, g3⟩ := hagree c
  obtain ⟨p0, p1, p3⟩ := Bounded.elems _ _ _ _ (hpre c)
  let e0 : Fin 4096 → Fin 16 → Fin 64 → EReal := fun t b i => m ((c.tc : Thread Cert.KernelIdeal.nD Cert.KernelIdeal.τ).loc Cert.KernelIdeal.main_arg0) (ix3 t b i)
  let e1 : Fin 64 → EReal := fun i => m ((c.tc : Thread Cert.KernelIdeal.nD Cert.KernelIdeal.τ).loc Cert.KernelIdeal.main_arg1) (ix1 i)
  let e2 : Fin 64 → EReal := fun i => m ((c.tc : Thread Cert.KernelIdeal.nD Cert.KernelIdeal.τ).loc Cert.KernelIdeal.main_arg2) (ix1 i)
  let e3 : Fin 64 → Fin 64 → EReal := fun i j => m ((c.tc : Thread Cert.KernelIdeal.nD Cert.KernelIdeal.τ).loc Cert.KernelIdeal.main_arg3) (ix2 i j)
  let E : Fin 16 → ℕ → Fin 64 → ℝ := fun b t i => (e0 ⟨t % 4096, Nat.mod_lt _ (by decide)⟩ b i).toReal
  let S : Fin 64 → ℝ := fun i => (e1 i).toReal
  let W : Fin 64 → Fin 64 → ℝ := fun i j => (e3 i j).toReal
  have hE : ∀ (b : Fin 16) (t : Fin 4096) (i : Fin 64), e0 t b i = ((E b t.val i : ℝ) : EReal) := fun b t i => by
    show e0 t b i = (((e0 ⟨t.val % 4096, _⟩ b i).toReal : ℝ) : EReal)
    simp only [Nat.mod_eq_of_lt t.isLt]
    exact (p0 (ix3 t b i)).1
  funext x
  have h0 : x 0 = (0 : Fin 1) := Subsingleton.elim (α := Fin 1) _ _
  have hx : x = ix2 (0 : Fin 1) (x 1) := by
    rw [← h0]
    exact eq_ix2 x
  rw [hx]
  refine (RefValue.value m' c (W := W) (S := S) (P := e2) (E := E (x 1)) (b := x 1) (fun t i => ?_) (fun i => ?_) (fun i => ?_) (fun i j => ?_)).trans
    (KernelValue.value m c (W := W) (S := S) (P := e2) (E := E (x 1)) (b := x 1) (hE (x 1)) (fun i => (p1 (ix1 i)).1) (fun i => rfl)
      (fun i j => (p3 (ix2 i j)).1) (fun t _ i => (p0 _).2) (fun i => (p1 _).2) (fun i j => (p3 _).2)).symm
  · exact (congrFun g0 _).trans (hE (x 1) t i)
  · exact (congrFun g1 _).trans (p1 (ix1 i)).1
  · exact congrFun g2 _
  · exact (congrFun g3 _).trans (p3 (ix2 i j)).1

/-- Every claim of the certificate. -/
theorem claim : Cert.Claim := ⟨Cert.Kernel.Gen.facts, Cert.KernelIdeal.Gen.facts, Cert.ReferenceIdeal.Gen.facts, Cert.Pre_bounded.Gen.facts,
  frame_p, frame_pi, fun m ρ _ => frame_pi m ρ trivial, frame_ri, fun m ρ _ => frame_ri m ρ trivial, preserves, algebraic⟩

end Cert.Proof

end
